-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S1048576x16 : Shape := ⟨2, ![1048576, 16]⟩
abbrev S1048576x4 : Shape := ⟨2, ![1048576, 4]⟩
abbrev S1048576 : Shape := ⟨1, ![1048576]⟩
abbrev S16x16x4 : Shape := ⟨3, ![16, 16, 4]⟩
abbrev S1x16 : Shape := ⟨2, ![1, 16]⟩
abbrev S16 : Shape := ⟨1, ![16]⟩
abbrev S_ : Shape := ⟨0, ![]⟩

class Facts : Prop where
  bcast_S_S1048576 : S_.BroadcastsInDim S1048576 (![] : Fin 0 → Fin S1048576.rank)
  bcast_S_S1048576x16 : S_.BroadcastsInDim S1048576x16 (![] : Fin 0 → Fin S1048576x16.rank)
  bcast_S_S1048576x4 : S_.BroadcastsInDim S1048576x4 (![] : Fin 0 → Fin S1048576x4.rank)
  bcast_S_S16x16x4 : S_.BroadcastsInDim S16x16x4 (![] : Fin 0 → Fin S16x16x4.rank)
  bcast_S_S1x16 : S_.BroadcastsInDim S1x16 (![] : Fin 0 → Fin S1x16.rank)
  bcast_S_S16 : S_.BroadcastsInDim S16 (![] : Fin 0 → Fin S16.rank)

variable [Facts]

def fn {F : FTy → Type} [FloatOps F] (main_arg0 : FVec F S1048576x16 .f32) (main_arg1 : FVec F S1048576x4 .f32) (main_arg2 : IVec S1048576 32) (main_arg3 : FVec F S16x16x4 .f32) (main_arg4 : FVec F S1x16 .f32) (main_arg5 : FVec F S16 .f32) (main_arg6 : FVec F S16 .f32) : IVec S1048576 1 × IVec S1048576x16 1 × IVec S1048576x4 1 × IVec S16x16x4 1 × IVec S1x16 1 × IVec S16 1 :=
  let main_c : IVec S_ 32 := constantI S_ 32 1#32
  let main_v0 : IVec S1048576 32 := broadcastInDim S1048576 ![] bcast_S_S1048576 main_c
  let main_v1 : IVec S1048576 1 := cmpi .eq main_arg2 main_v0
  let main_v2 : FVec F S1048576x16 .f32 := subf main_arg0 main_arg0
  let main_cst : FVec F S_ .f32 := constant S_ .f32 0x00000000#32
  let main_v3 : FVec F S1048576x16 .f32 := broadcastInDim S1048576x16 ![] bcast_S_S1048576x16 main_cst
  let main_v4 : IVec S1048576x16 1 := cmpf .oeq main_v2 main_v3
  let main_v5 : FVec F S1048576x4 .f32 := subf main_arg1 main_arg1
  let main_cst_0 : FVec F S_ .f32 := constant S_ .f32 0x00000000#32
  let main_v6 : FVec F S1048576x4 .f32 := broadcastInDim S1048576x4 ![] bcast_S_S1048576x4 main_cst_0
  let main_v7 : IVec S1048576x4 1 := cmpf .oeq main_v5 main_v6
  let main_v8 : FVec F S16x16x4 .f32 := subf main_arg3 main_arg3
  let main_cst_1 : FVec F S_ .f32 := constant S_ .f32 0x00000000#32
  let main_v9 : FVec F S16x16x4 .f32 := broadcastInDim S16x16x4 ![] bcast_S_S16x16x4 main_cst_1
  let main_v10 : IVec S16x16x4 1 := cmpf .oeq main_v8 main_v9
  let main_v11 : FVec F S1x16 .f32 := subf main_arg4 main_arg4
  let main_cst_2 : FVec F S_ .f32 := constant S_ .f32 0x00000000#32
  let main_v12 : FVec F S1x16 .f32 := broadcastInDim S1x16 ![] bcast_S_S1x16 main_cst_2
  let main_v13 : IVec S1x16 1 := cmpf .oeq main_v11 main_v12
  let main_v14 : FVec F S16 .f32 := subf main_arg5 main_arg5
  let main_cst_3 : FVec F S_ .f32 := constant S_ .f32 0x00000000#32
  let main_v15 : FVec F S16 .f32 := broadcastInDim S16 ![] bcast_S_S16 main_cst_3
  let main_v16 : IVec S16 1 := cmpf .oeq main_v14 main_v15
  (main_v1, main_v4, main_v7, main_v10, main_v13, main_v16)
-- ==== Kernel.lean ====
abbrev S1048576x16 : Shape := ⟨2, ![1048576, 16]⟩
abbrev S1048576x4 : Shape := ⟨2, ![1048576, 4]⟩
abbrev S1048576 : Shape := ⟨1, ![1048576]⟩
abbrev S16x16x4 : Shape := ⟨3, ![16, 16, 4]⟩
abbrev S1x16 : Shape := ⟨2, ![1, 16]⟩
abbrev S16 : Shape := ⟨1, ![16]⟩
abbrev S16x1048576 : Shape := ⟨2, ![16, 1048576]⟩
abbrev S4x1048576 : Shape := ⟨2, ![4, 1048576]⟩
abbrev S16x4x16 : Shape := ⟨3, ![16, 4, 16]⟩
abbrev S16x64 : Shape := ⟨2, ![16, 64]⟩
abbrev S16x1 : Shape := ⟨2, ![16, 1]⟩
abbrev S1x16x1x1 : Shape := ⟨4, ![1, 16, 1, 1]⟩
abbrev S1x16x128x1 : Shape := ⟨4, ![1, 16, 128, 1]⟩
abbrev S16x128 : Shape := ⟨2, ![16, 128]⟩
abbrev S16x65536 : Shape := ⟨2, ![16, 65536]⟩
abbrev S4x65536 : Shape := ⟨2, ![4, 65536]⟩
abbrev S1x65536 : Shape := ⟨2, ![1, 65536]⟩
abbrev S64x65536 : Shape := ⟨2, ![64, 65536]⟩
abbrev S16x2 : Shape := ⟨2, ![16, 2]⟩

abbrev nBuf : Space → Nat
  | .hbm => 25
  | .vmem => 12
  | .smem => 0
  | _ => 0

abbrev bufTy : (tb : Table) → Fin (tcTables nBuf tb) → BufTy
  | .hbm, ⟨0, _⟩ => ⟨S1048576x16, .f32⟩
  | .hbm, ⟨1, _⟩ => ⟨S1048576x4, .f32⟩
  | .hbm, ⟨2, _⟩ => ⟨S1048576, .i32⟩
  | .hbm, ⟨3, _⟩ => ⟨S16x16x4, .f32⟩
  | .hbm, ⟨4, _⟩ => ⟨S1x16, .f32⟩
  | .hbm, ⟨5, _⟩ => ⟨S16, .f32⟩
  | .hbm, ⟨6, _⟩ => ⟨S16, .f32⟩
  | .hbm, ⟨7, _⟩ => ⟨S16x1048576, .f32⟩
  | .hbm, ⟨8, _⟩ => ⟨S4x1048576, .f32⟩
  | .hbm, ⟨9, _⟩ => ⟨S16x4x16, .f32⟩
  | .hbm, ⟨10, _⟩ => ⟨S16x64, .f32⟩
  | .hbm, ⟨11, _⟩ => ⟨S16x1, .f32⟩
  | .hbm, ⟨12, _⟩ => ⟨S1x16x1x1, .f32⟩
  | .hbm, ⟨13, _⟩ => ⟨S1x16x128x1, .f32⟩
  | .hbm, ⟨14, _⟩ => ⟨S16x128, .f32⟩
  | .hbm, ⟨15, _⟩ => ⟨S16x1, .f32⟩
  | .hbm, ⟨16, _⟩ => ⟨S1x16x1x1, .f32⟩
  | .hbm, ⟨17, _⟩ => ⟨S1x16x128x1, .f32⟩
  | .hbm, ⟨18, _⟩ => ⟨S16x128, .f32⟩
  | .hbm, ⟨19, _⟩ => ⟨S16x1, .f32⟩
  | .hbm, ⟨20, _⟩ => ⟨S1x16x1x1, .f32⟩
  | .hbm, ⟨21, _⟩ => ⟨S1x16x128x1, .f32⟩
  | .hbm, ⟨22, _⟩ => ⟨S16x128, .f32⟩
  | .hbm, ⟨23, _⟩ => ⟨S16x1048576, .f32⟩
  | .hbm, ⟨24, _⟩ => ⟨S1048576x16, .f32⟩
  | .local _ .vmem, ⟨0, _⟩ => ⟨S16x65536, .f32⟩
  | .local _ .vmem, ⟨1, _⟩ => ⟨S16x65536, .f32⟩
  | .local _ .vmem, ⟨2, _⟩ => ⟨S4x65536, .f32⟩
  | .local _ .vmem, ⟨3, _⟩ => ⟨S4x65536, .f32⟩
  | .local _ .vmem, ⟨4, _⟩ => ⟨S16x64, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x65536, .f32⟩
  | .local _ .vmem, ⟨9, _⟩ => ⟨S16x65536, .f32⟩
  | .local _ .vmem, ⟨10, _⟩ => ⟨S16x1048576, .bf16⟩
  | .local _ .vmem, ⟨11, _⟩ => ⟨S16x128, .f32⟩
  | _, _ => ⟨S1048576x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let c0_16 : Index := 0#32
  let arg0 : BitVec 32 := BitVec.ofNat 32 (i 0).val
  let c65536_i32 : BitVec 32 := 65536#32
  let v41 : BitVec 32 := Scalar.muli arg0 c65536_i32
  let v42 : Index := Scalar.indexCast v41
  ![0, v42.toNat]
def k0_cond4 (i : grid0.Coords) : BitVec 1 :=
  let arg0 : BitVec 32 := BitVec.ofNat 32 (i 0).val
  let c16_i32_3 : BitVec 32 := 16#32
  let v9 : BitVec 1 := Scalar.cmpi .sge arg0 c16_i32_3
  let v10 : BitVec 32 := Scalar.extui v9
  let c0_i32_4 : BitVec 32 := 0#32
  let v11 : BitVec 1 := Scalar.cmpi .ne v10 c0_i32_4
  v11

def k0_off2 (i : grid0.Coords) : Fin 2 → Nat :=
  let c0 : Index := 0#32
  let arg0 : BitVec 32 := BitVec.ofNat 32 (i 0).val
  let c16_i32_5 : BitVec 32 := 16#32
  let v12 : BitVec 32 := Scalar.subi arg0 c16_i32_5
  let c65536_i32 : BitVec 32 := 65536#32
  let v13 : BitVec 32 := Scalar.muli v12 c65536_i32
  let v14 : Index := Scalar.indexCast v13
  ![0, v14.toNat]
def cc0_transform_0 (i : grid0.Coords) : Fin 2 → Nat :=
  let arg0 : BitVec 32 := BitVec.ofNat 32 (i 0).val
  let c16_i32 : BitVec 32 := 16#32
  let v0 : BitVec 1 := Scalar.cmpi .slt arg0 c16_i32
  let c0_i32 : BitVec 32 := 0#32
  let v1 : BitVec 32 := Scalar.select v0 arg0 c0_i32
  let c0_i32_0 : BitVec 32 := 0#32
  let c0_i32_1 : BitVec 32 := 0#32
  ![c0_i32_0.toNat, v1.toNat]

def cc0_transform_1 (i : grid0.Coords) : Fin 2 → Nat :=
  let arg0 : BitVec 32 := BitVec.ofNat 32 (i 0).val
  let c16_i32 : BitVec 32 := 16#32
  let v0 : BitVec 1 := Scalar.cmpi .slt arg0 c16_i32
  let c0_i32 : BitVec 32 := 0#32
  let v1 : BitVec 32 := Scalar.select v0 arg0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c0_i32 : BitVec 32 := 0#32
  let v2 : BitVec 32 := Scalar.select v0 c0_i32 v1
  let c0_i32_1 : BitVec 32 := 0#32
  let c0_i32_2 : BitVec 32 := 0#32
  ![c0_i32_1.toNat, v2.toNat]

abbrev stage0_0 : Fin 2 → Memref sig .tc .vmem S16x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x65536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1048576x16 : Shape := ⟨2, ![1048576, 16]⟩
abbrev S1048576x4 : Shape := ⟨2, ![1048576, 4]⟩
abbrev S1048576 : Shape := ⟨1, ![1048576]⟩
abbrev S16x16x4 : Shape := ⟨3, ![16, 16, 4]⟩
abbrev S1x16 : Shape := ⟨2, ![1, 16]⟩
abbrev S16 : Shape := ⟨1, ![16]⟩
abbrev S1 : Shape := ⟨1, ![1]⟩
abbrev S1048575 : Shape := ⟨1, ![1048575]⟩
abbrev S_ : Shape := ⟨0, ![]⟩
abbrev S1048576x1 : Shape := ⟨2, ![1048576, 1]⟩
abbrev S1x1 : Shape := ⟨2, ![1, 1]⟩
abbrev S1048576x4x1 : Shape := ⟨3, ![1048576, 4, 1]⟩
abbrev S1048576x1x16 : Shape := ⟨3, ![1048576, 1, 16]⟩
abbrev S1048576x4x16 : Shape := ⟨3, ![1048576, 4, 16]⟩

abbrev nBuf : Space → Nat
  | .hbm => 125
  | .vmem => 0
  | .smem => 0
  | _ => 0

abbrev bufTy : (tb : Table) → Fin (tcTables nBuf tb) → BufTy
  | .hbm, ⟨0, _⟩ => ⟨S1048576x16, .f32⟩
  | .hbm, ⟨1, _⟩ => ⟨S1048576x4, .f32⟩
  | .hbm, ⟨2, _⟩ => ⟨S1048576, .i32⟩
  | .hbm, ⟨3, _⟩ => ⟨S16x16x4, .f32⟩
  | .hbm, ⟨4, _⟩ => ⟨S1x16, .f32⟩
  | .hbm, ⟨5, _⟩ => ⟨S16, .f32⟩
  | .hbm, ⟨6, _⟩ => ⟨S16, .f32⟩
  | .hbm, ⟨7, _⟩ => ⟨S1048576, .i32⟩
  | .hbm, ⟨8, _⟩ => ⟨S1, .i32⟩
  | .hbm, ⟨9, _⟩ => ⟨S1048575, .i32⟩
  | .hbm, ⟨10, _⟩ => ⟨S1048576, .i32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1048576, .i32⟩
  | .hbm, ⟨15, _⟩ => ⟨S_, .i32⟩
  | .hbm, ⟨16, _⟩ => ⟨S_, .i32⟩
  | .hbm, ⟨17, _⟩ => ⟨S1048576, .i32⟩
  | .hbm, ⟨18, _⟩ => ⟨S_, .i32⟩
  | .hbm, ⟨19, _⟩ => ⟨S1048576, .i32⟩
  | .hbm, ⟨20, _⟩ => ⟨S_, .i32⟩
  | .hbm, ⟨21, _⟩ => ⟨S1048576, .i32⟩
  | .hbm, ⟨22, _⟩ => ⟨S1048576, .i1⟩
  | .hbm, ⟨23, _⟩ => ⟨S_, .i32⟩
  | .hbm, ⟨24, _⟩ => ⟨S1048576, .i32⟩
  | .hbm, ⟨25, _⟩ => ⟨S1048576, .i32⟩
  | .hbm, ⟨26, _⟩ => ⟨S1048576, .i32⟩
  | .hbm, ⟨27, _⟩ => ⟨S1048576x1, .i32⟩
  | .hbm, ⟨28, _⟩ => ⟨S_, .i32⟩
  | .hbm, ⟨29, _⟩ => ⟨S1048576, .i32⟩
  | .hbm, ⟨30, _⟩ => ⟨S1048576, .i32⟩
  | .hbm, ⟨31, _⟩ => ⟨S_, .i32⟩
  | .hbm, ⟨32, _⟩ => ⟨S_, .i32⟩
  | .hbm, ⟨33, _⟩ => ⟨S1048576, .i32⟩
  | .hbm, ⟨34, _⟩ => ⟨S_, .i32⟩
  | .hbm, ⟨35, _⟩ => ⟨S1048576, .i32⟩
  | .hbm, ⟨36, _⟩ => ⟨S1048576, .i32⟩
  | .hbm, ⟨37, _⟩ => ⟨S_, .i32⟩
  | .hbm, ⟨38, _⟩ => ⟨S1048576, .i32⟩
  | .hbm, ⟨39, _⟩ => ⟨S1048576, .i1⟩
  | .hbm, ⟨40, _⟩ => ⟨S_, .i32⟩
  | .hbm, ⟨41, _⟩ => ⟨S1048576, .i32⟩
  | .hbm, ⟨42, _⟩ => ⟨S1048576, .i32⟩
  | .hbm, ⟨43, _⟩ => ⟨S1048576, .i32⟩
  | .hbm, ⟨44, _⟩ => ⟨S1048576x1, .i32⟩
  | .hbm, ⟨45, _⟩ => ⟨S1, .i32⟩
  | .hbm, ⟨46, _⟩ => ⟨S_, .i32⟩
  | .hbm, ⟨47, _⟩ => ⟨S1048576x1, .i32⟩
  | .hbm, ⟨48, _⟩ => ⟨S1048576x1, .i1⟩
  | .hbm, ⟨49, _⟩ => ⟨S1x1, .i32⟩
  | .hbm, ⟨50, _⟩ => ⟨S1048576x1, .i32⟩
  | .hbm, ⟨51, _⟩ => ⟨S1048576x1, .i1⟩
  | .hbm, ⟨52, _⟩ => ⟨S1048576x1, .i1⟩
  | .hbm, ⟨53, _⟩ => ⟨S_, .i1⟩
  | .hbm, ⟨54, _⟩ => ⟨S1048576, .i1⟩
  | .hbm, ⟨55, _⟩ => ⟨S1048576, .i32⟩
  | .hbm, ⟨56, _⟩ => ⟨S_, .i32⟩
  | .hbm, ⟨57, _⟩ => ⟨S1048576, .i32⟩
  | .hbm, ⟨58, _⟩ => ⟨S1048576, .i32⟩
  | .hbm, ⟨59, _⟩ => ⟨S1048576x4x1, .f32⟩
  | .hbm, ⟨60, _⟩ => ⟨S1048576x1x16, .f32⟩
  | .hbm, ⟨61, _⟩ => ⟨S1048576x4x16, .f32⟩
  | .hbm, ⟨62, _⟩ => ⟨S1048576x4x16, .f32⟩
  | .hbm, ⟨63, _⟩ => ⟨S1048576x4x16, .f32⟩
  | .hbm, ⟨64, _⟩ => ⟨S1048576x16, .f32⟩
  | .hbm, ⟨65, _⟩ => ⟨S_, .f32⟩
  | .hbm, ⟨66, _⟩ => ⟨S1048576x16, .f32⟩
  | .hbm, ⟨67, _⟩ => ⟨S1048576x1, .i32⟩
  | .hbm, ⟨68, _⟩ => ⟨S1048576x16, .f32⟩
  | .hbm, ⟨69, _⟩ => ⟨S_, .i32⟩
  | .hbm, ⟨70, _⟩ => ⟨S1048576, .i32⟩
  | .hbm, ⟨71, _⟩ => ⟨S1048576, .i32⟩
  | .hbm, ⟨72, _⟩ => ⟨S1048576, .f32⟩
  | .hbm, ⟨73, _⟩ => ⟨S1048576x1, .f32⟩
  | .hbm, ⟨74, _⟩ => ⟨S1048576x16, .f32⟩
  | .hbm, ⟨75, _⟩ => ⟨S1048576x16, .f32⟩
  | .hbm, ⟨76, _⟩ => ⟨S1048576x16, .f32⟩
  | .hbm, ⟨77, _⟩ => ⟨S1048576x16, .f32⟩
  | .hbm, ⟨78, _⟩ => ⟨S_, .f32⟩
  | .hbm, ⟨79, _⟩ => ⟨S1048576x16, .f32⟩
  | .hbm, ⟨80, _⟩ => ⟨S1048576x16, .f32⟩
  | .hbm, ⟨81, _⟩ => ⟨S_, .f32⟩
  | .hbm, ⟨82, _⟩ => ⟨S16, .f32⟩
  | .hbm, ⟨83, _⟩ => ⟨S_, .f32⟩
  | .hbm, ⟨84, _⟩ => ⟨S16, .f32⟩
  | .hbm, ⟨85, _⟩ => ⟨S16, .f32⟩
  | .hbm, ⟨86, _⟩ => ⟨S_, .i32⟩
  | .hbm, ⟨87, _⟩ => ⟨S_, .f32⟩
  | .hbm, ⟨88, _⟩ => ⟨S16, .f32⟩
  | .hbm, ⟨89, _⟩ => ⟨S1x16, .f32⟩
  | .hbm, ⟨90, _⟩ => ⟨S_, .f32⟩
  | .hbm, ⟨91, _⟩ => ⟨S1x16, .f32⟩
  | .hbm, ⟨92, _⟩ => ⟨S1x16, .f32⟩
  | .hbm, ⟨93, _⟩ => ⟨S1048576x16, .f32⟩
  | .hbm, ⟨94, _⟩ => ⟨S1048576x16, .f32⟩
  | .hbm, ⟨95, _⟩ => ⟨S1048576x16, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S16, .f32⟩
  | .hbm, ⟨101, _⟩ => ⟨S16, .f32⟩
  | .hbm, ⟨102, _⟩ => ⟨S16, .f32⟩
  | .hbm, ⟨103, _⟩ => ⟨S_, .f32⟩
  | .hbm, ⟨104, _⟩ => ⟨S_, .i1⟩
  | .hbm, ⟨105, _⟩ => ⟨S_, .f32⟩
  | .hbm, ⟨106, _⟩ => ⟨S_, .f32⟩
  | .hbm, ⟨107, _⟩ => ⟨S16, .f32⟩
  | .hbm, ⟨108, _⟩ => ⟨S16, .f32⟩
  | .hbm, ⟨109, _⟩ => ⟨S1x16, .f32⟩
  | .hbm, ⟨110, _⟩ => ⟨S1048576x16, .f32⟩
  | .hbm, ⟨111, _⟩ => ⟨S1048576x16, .f32⟩
  | .hbm, ⟨112, _⟩ => ⟨S_, .f32⟩
  | .hbm, ⟨113, _⟩ => ⟨S16, .f32⟩
  | .hbm, ⟨114, _⟩ => ⟨S16, .f32⟩
  | .hbm, ⟨115, _⟩ => ⟨S16, .f32⟩
  | .hbm, ⟨116, _⟩ => ⟨S1x16, .f32⟩
  | .hbm, ⟨117, _⟩ => ⟨S1048576x16, .f32⟩
  | .hbm, ⟨118, _⟩ => ⟨S1048576x16, .f32⟩
  | .hbm, ⟨119, _⟩ => ⟨S1x16, .f32⟩
  | .hbm, ⟨120, _⟩ => ⟨S1048576x16, .f32⟩
  | .hbm, ⟨121, _⟩ => ⟨S1048576x16, .f32⟩
  | .hbm, ⟨122, _⟩ => ⟨S1x16, .f32⟩
  | .hbm, ⟨123, _⟩ => ⟨S1048576x16, .f32⟩
  | .hbm, ⟨124, _⟩ => ⟨S1048576x16, .f32⟩
  | _, _ => ⟨S1048576x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_call1_call0_c : Ref sig .tc := ⟨.hbm, 15, rfl⟩
abbrev main_call1_call0_v0 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_v13 : Ref sig .tc := ⟨.hbm, 30, rfl⟩
abbrev main_call2_call0_c : Ref sig .tc := ⟨.hbm, 31, rfl⟩
abbrev main_call2_call0_v0 : Ref sig .tc := ⟨.hbm, 32, rfl⟩
abbrev main_v14 : Ref sig .tc := ⟨.hbm, 33, rfl⟩
abbrev main_c_5 : Ref sig .tc := ⟨.hbm, 34, rfl⟩
abbrev main_v15 : Ref sig .tc := ⟨.hbm, 35, rfl⟩
abbrev main_v16 : Ref sig .tc := ⟨.hbm, 36, rfl⟩
abbrev main_call3_c : Ref sig .tc := ⟨.hbm, 37, rfl⟩
abbrev main_call3_v0 : Ref sig .tc := ⟨.hbm, 38, rfl⟩
abbrev main_call3_v1 : Ref sig .tc := ⟨.hbm, 39, rfl⟩
abbrev main_call3_c_0 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_call3_v5 : Ref sig .tc := ⟨.hbm, 44, rfl⟩
abbrev main_call3_c_1 : Ref sig .tc := ⟨.hbm, 45, rfl⟩
abbrev main_call3_c_2 : Ref sig .tc := ⟨.hbm, 46, rfl⟩
abbrev main_call3_v6 : Ref sig .tc := ⟨.hbm, 47, rfl⟩
abbrev main_call3_v7 : Ref sig .tc := ⟨.hbm, 48, rfl⟩
abbrev main_call3_v8 : Ref sig .tc := ⟨.hbm, 49, rfl⟩
abbrev main_call3_v9 : Ref sig .tc := ⟨.hbm, 50, rfl⟩
abbrev main_call3_v10 : Ref sig .tc := ⟨.hbm, 51, rfl⟩
abbrev main_call3_v11 : Ref sig .tc := ⟨.hbm, 52, rfl⟩
abbrev main_call3_c_3 : Ref sig .tc := ⟨.hbm, 53, rfl⟩
abbrev main_call3_v12 : Ref sig .tc := ⟨.hbm, 54, rfl⟩
abbrev main_call3_v13 : Ref sig .tc := ⟨.hbm, 55, rfl⟩
abbrev main_call3_c_4 : Ref sig .tc := ⟨.hbm, 56, rfl⟩
abbrev main_call3_v14 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_c_6 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_call4_cst : Ref sig .tc := ⟨.hbm, 78, rfl⟩
abbrev main_call4_v0 : Ref sig .tc := ⟨.hbm, 79, rfl⟩
abbrev main_v35 : Ref sig .tc := ⟨.hbm, 80, rfl⟩
abbrev main_cst_7 : Ref sig .tc := ⟨.hbm, 81, rfl⟩
abbrev main_v36 : Ref sig .tc := ⟨.hbm, 82, rfl⟩
abbrev main_cst_8 : Ref sig .tc := ⟨.hbm, 83, rfl⟩
abbrev main_v37 : Ref sig .tc := ⟨.hbm, 84, rfl⟩
abbrev main_v38 : Ref sig .tc := ⟨.hbm, 85, rfl⟩
abbrev main_c_9 : Ref sig .tc := ⟨.hbm, 86, rfl⟩
abbrev main_call5_cst : Ref sig .tc := ⟨.hbm, 87, rfl⟩
abbrev main_call5_v0 : Ref sig .tc := ⟨.hbm, 88, rfl⟩
abbrev main_call5_v1 : Ref sig .tc := ⟨.hbm, 89, rfl⟩
abbrev main_call5_cst_0 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_call5_v5 : Ref sig .tc := ⟨.hbm, 94, rfl⟩
abbrev main_call5_v6 : Ref sig .tc := ⟨.hbm, 95, rfl⟩
abbrev main_call5_v7 : Ref sig .tc := ⟨.hbm, 96, rfl⟩
abbrev main_call5_cst_1 : Ref sig .tc := ⟨.hbm, 97, rfl⟩
abbrev main_call5_v8 : Ref sig .tc := ⟨.hbm, 98, rfl⟩
abbrev main_call5_cst_2 : Ref sig .tc := ⟨.hbm, 99, rfl⟩
abbrev main_call5_v9 : Ref sig .tc := ⟨.hbm, 100, rfl⟩
abbrev main_call5_v10 : Ref sig .tc := ⟨.hbm, 101, rfl⟩
abbrev main_call5_v11 : Ref sig .tc := ⟨.hbm, 102, rfl⟩
abbrev main_call5_cst_3 : Ref sig .tc := ⟨.hbm, 103, rfl⟩
abbrev main_call5_v12 : Ref sig .tc := ⟨.hbm, 104, rfl⟩
abbrev main_call5_cst_4 : Ref sig .tc := ⟨.hbm, 105, rfl⟩
abbrev main_call5_call0_v0 : Ref sig .tc := ⟨.hbm, 106, rfl⟩
abbrev main_call5_call0_v1 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_cst_10 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩

abbrev nD : Nat := 1
abbrev τ : Topo := Topo.v7x

variable {F : FTy → Type} [FloatOps F]
-- ==== Proof.Point.lean ====
module

public import proofs.«01_k».proof.Proof.Gen.KernelIdeal.Frame
public import Idealize.ShloMosaic.Lib.Pipeline.FrameBody
public import Idealize.ShloMosaic.Lib.Pipeline.FrameSuffix
public import Idealize.ShloMosaic.Lib.Tactic
public import Idealize.ShloMosaic.Lib.WordCmp
public import Idealize.ShloMosaic.Lib.VecWindow
public import proofs.«01_k».proof.Proof.Gen.KernelIdeal.Skeleton

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the points before point 16 — decided over the grid. -/
theorem hcond0_1 : ∀ t : Fin cfg0.N, cond0_1 (grid0.coords t) ↔ t.val < 16 :=
  (by decide +kernel : ∀ t : Fin grid0.N, cond0_1 (grid0.coords t) ↔ t.val < 16)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 0).val) 15#32)) 0#32) = 1#1
/-- It holds at point 15 only — by arithmetic of the point. -/
theorem hcond0_2 : ∀ t : Fin cfg0.N, cond0_2 (grid0.coords t) ↔ t.val % 32 = 15 :=
  (fun t => by
    have ht : t.val < 32 := Nat.lt_of_lt_of_eq t.isLt N_0
    have e0 : (grid0.coords t 0).val = t.val / 1 % 32 := Pipeline.Grid.coords_val t 0 (by decide) rfl
    simp only [cond0_2, e0]
    word_cmp
   : ∀ t : Fin grid0.N, cond0_2 (grid0.coords t) ↔ t.val % 32 = 15)

/-- The condition of the body's `scf.if` 3 (`k0_h4`), from the grid coordinates (the skeleton's scalar
    chain substituted). -/
abbrev cond0_3 (i : grid0.Coords) : Prop := k0_cond4 i = 1#1
/-- It holds at the points from point 16 on — decided over the grid. -/
theorem hcond0_3 : ∀ t : Fin cfg0.N, cond0_3 (grid0.coords t) ↔ 16 ≤ t.val :=
  (by decide +kernel : ∀ t : Fin grid0.N, cond0_3 (grid0.coords t) ↔ 16 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S16x65536 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x65536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x65536 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S16x1048576 .bf16 := Memref.whole cc0_scratch0
abbrev scM0_1 : Memref sig .tc .vmem S16x128 .f32 := Memref.whole cc0_scratch1
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What one point computes, as functions of the contents of its buffers -/

/-- Column `0` of a 16 by 128 array. -/
abbrev col0 (x : Vec F S16x128 .f32) : Vec F S16x1 .f32 := window x ![0, 0] S16x1.size inb_S16x128_S16x1_0_0
/-- Column `1` of a 16 by 128 array. -/
abbrev col1 (x : Vec F S16x128 .f32) : Vec F S16x1 .f32 := window x ![0, 1] S16x1.size inb_S16x128_S16x1_0_1
/-- Column `2` of a 16 by 128 array. -/
abbrev col2 (x : Vec F S16x128 .f32) : Vec F S16x1 .f32 := window x ![0, 2] S16x1.size inb_S16x128_S16x1_0_2
/-- Column `3` of a 16 by 128 array. -/
abbrev col3 (x : Vec F S16x128 .f32) : Vec F S16x1 .f32 := window x ![0, 3] S16x1.size inb_S16x128_S16x1_0_3

/-- The rectified convolution of one block of columns, in f32. -/
def yOf (x0 : Vec F S16x65536 .f32) (x1 : Vec F S4x65536 .f32) (x2 : Vec F S16x64 .f32) (x3 : Vec F S16x128 .f32) : Vec F S16x65536 .f32 :=
  k0_pay8 x0 (window x1 ![0, 0] S1x65536.size inb_S4x65536_S1x65536_0_0) (window x1 ![1, 0] S1x65536.size inb_S4x65536_S1x65536_1_0)
    (window x1 ![2, 0] S1x65536.size inb_S4x65536_S1x65536_2_0) (window x1 ![3, 0] S1x65536.size inb_S4x65536_S1x65536_3_0) x2 (col0 x3)

/-- The same block rounded to bf16, as it is stored. -/
def yCast (x0 : Vec F S16x65536 .f32) (x1 : Vec F S4x65536 .f32) (x2 : Vec F S16x64 .f32) (x3 : Vec F S16x128 .f32) : Vec F S16x65536 .bf16 :=
  k0_pay9 x0 (window x1 ![0, 0] S1x65536.size inb_S4x65536_S1x65536_0_0) (window x1 ![1, 0] S1x65536.size inb_S4x65536_S1x65536_1_0)
    (window x1 ![2, 0] S1x65536.size inb_S4x65536_S1x65536_2_0) (window x1 ![3, 0] S1x65536.size inb_S4x65536_S1x65536_3_0) x2 (col0 x3)

/-- The row sums of the block. -/
def sumOf (x0 : Vec F S16x65536 .f32) (x1 : Vec F S4x65536 .f32) (x2 : Vec F S16x64 .f32) (x3 : Vec F S16x128 .f32) : Vec F S16x1 .f32 :=
  k0_pay10 x0 (window x1 ![0, 0] S1x65536.size inb_S4x65536_S1x65536_0_0) (window x1 ![1, 0] S1x65536.size inb_S4x65536_S1x65536_1_0)
    (window x1 ![2, 0] S1x65536.size inb_S4x65536_S1x65536_2_0) (window x1 ![3, 0] S1x65536.size inb_S4x65536_S1x65536_3_0) x2 (col0 x3)

/-- The row sums of the block's squares. -/
def sqOf (x0 : Vec F S16x65536 .f32) (x1 : Vec F S4x65536 .f32) (x2 : Vec F S16x64 .f32) (x3 : Vec F S16x128 .f32) : Vec F S16x1 .f32 :=
  k0_pay11 x0 (window x1 ![0, 0] S1x65536.size inb_S4x65536_S1x65536_0_0) (window x1 ![1, 0] S1x65536.size inb_S4x65536_S1x65536_1_0)
    (window x1 ![2, 0] S1x65536.size inb_S4x65536_S1x65536_2_0) (window x1 ![3, 0] S1x65536.size inb_S4x65536_S1x65536_3_0) x2 (col0 x3)

/-- The statistics after a block has been added: its two sums go onto columns 0 and 1. -/
def accum (x0 : Vec F S16x65536 .f32) (x1 : Vec F S4x65536 .f32) (x2 : Vec F S16x64 .f32) (x3 : Vec F S16x128 .f32) (d : Vec F S16x128 .f32) : Vec F S16x128 .f32 :=
  put d ![0, 0] S16x2.size (k0_pay2 (sumOf x0 x1 x2 x3) (sqOf x0 x1 x2 x3) (window d ![0, 0] S16x2.size inb_S16x128_S16x2_0_0))

/-- The statistics completed: column 2 becomes the scale, column 3 the shift. -/
def finish (x4 x5 : Vec F S16x128 .f32) (d : Vec F S16x128 .f32) : Vec F S16x128 .f32 :=
  put (put d ![0, 2] S16x1.size (k0_pay5 (col0 d) (col1 d) (col0 x4))) ![0, 3] S16x1.size (k0_pay6 (col0 d) (col1 d) (col0 x4) (col0 x5))

/-- The block of results: the stored block scaled and shifted row by row. -/
def outOf (i : grid0.Coords) (h : k0_cond4 i = 1#1) (d8 : Vec F S16x1048576 .bf16) (d9 : Vec F S16x128 .f32) : Vec F S16x65536 .f32 :=
  k0_pay7 (window d8 (k0_off2 i) S16x65536.size (k0_off2_inb i h)) (col2 d9) (col3 d9)

/-- A load that lies inside the only store made so far reads the stored value, whatever was there before. -/
theorem cov_inside {sp : Space} {s : Shape} {e : EltTy} (v : View sig .tc sp s e) (x : s.Idx → Elt F e) {off size off' size' : Fin s.rank → ℕ}
    (inb : ∀ a, off a + size a ≤ s.size a) (inb' : ∀ a, off' a + size' a ≤ s.size a) (w : (Rect.unit off size inb).shape.Idx → Elt F e)
    (h : ∀ a, off a ≤ off' a ∧ off' a + size' a ≤ off a + size a) :
    v.readCov [⟨Rect.unit off size inb, w⟩] (Rect.unit off' size' inb').toLoadRect = window (put x off size w) off' size' inb' := by
  show v.readAt (Elt F) _ (v.writes (Elt F) v.junk _) = _
  rw [View.readAt_unit _ _ _ rfl inb', View.read_writes_cons_put _ _ _ _ _ rfl, window_put_of_inside _ _ _ _ _ _ _ h, window_put_of_inside _ _ _ _ _ _ _ h]

/-- A load after one store over the whole array reads a window of the stored value. -/
theorem cov_whole {sp : Space} {s : Shape} {e : EltTy} (v : View sig .tc sp s e) {off off' size' : Fin s.rank → ℕ}
    (inb : ∀ a, off a + s.size a ≤ s.size a) (inb' : ∀ a, off' a + size' a ≤ s.size a) (w : (Rect.unit off s.size inb).shape.Idx → Elt F e) :
    v.readCov [⟨Rect.unit off s.size inb, w⟩] (Rect.unit off' size' inb').toLoadRect = window w off' size' inb' := by
  show v.readAt (Elt F) _ (v.writes (Elt F) v.junk _) = _
  rw [View.readAt_unit _ _ _ rfl inb', View.read_writes_full]

end Cert.KernelIdeal.Conv

end
-- ==== Proof.RunA.lean ====
module

public import proofs.«01_k».proof.Proof.Gen.KernelIdeal.Frame
public import Idealize.ShloMosaic.Lib.Pipeline.FrameBody
public import Idealize.ShloMosaic.Lib.Pipeline.FrameSuffix
public import Idealize.ShloMosaic.Lib.Tactic
public import Idealize.ShloMosaic.Lib.WordCmp
public import Idealize.ShloMosaic.Lib.VecWindow
public import proofs.«01_k».proof.Proof.Gen.KernelIdeal.Skeleton
public import proofs.«01_k».proof.Proof.Point

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow

variable {F : FTy → Type} [FloatOps F]

local notation "𝕄" => MT nD τ sig Unit (Elt F) ℕ (UR sig nD τ) ℕ

set_option maxHeartbeats 1000000 in
/-- The body at the first point: the statistics are cleared, then the block is computed, stored and summed. -/
theorem runA (c : Dev nD) (i : grid0.Coords) (arg1 : Memref sig .tc .vmem S16x65536 .f32) (harg1 : arg1.IsWhole) (arg2 : Memref sig .tc .vmem S4x65536 .f32) (harg2 : arg2.IsWhole) (arg3 : Memref sig .tc .vmem S16x64 .f32) (harg3 : arg3.IsWhole) (arg4 : Memref sig .tc .vmem S16x128 .f32) (harg4 : arg4.IsWhole)
    (arg5 : Memref sig .tc .vmem S16x128 .f32) (harg5 : arg5.IsWhole) (arg6 : Memref sig .tc .vmem S16x128 .f32) (harg6 : arg6.IsWhole) (arg7 : Memref sig .tc .vmem S16x65536 .f32) (harg7 : arg7.IsWhole) (arg8 : Memref sig .tc .vmem S16x1048576 .bf16) (harg8 : arg8.IsWhole) (arg9 : Memref sig .tc .vmem S16x128 .f32) (harg9 : arg9.IsWhole)
    (hc0 : cond0_0 i) (hc1 : cond0_1 i) (hc2 : ¬cond0_2 i) (hc3 : ¬cond0_3 i)
    (x0 : Vec F S16x65536 .f32) (x1 : Vec F S4x65536 .f32) (x2 : Vec F S16x64 .f32) (x3 : Vec F S16x128 .f32) (x4 : Vec F S16x128 .f32) (x5 : Vec F S16x128 .f32) (z : Vec F S16x65536 .f32) (d8 : Vec F S16x1048576 .bf16) (d9 : Vec F S16x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare z ∗ owns (c : Thread nD τ) arg8 fullShare d8 ∗ owns (c : Thread nD τ) arg9 fullShare d9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare z ∗ owns (c : Thread nD τ) arg8 fullShare (put d8 (k0_off1 i) S16x65536.size (yCast x0 x1 x2 x3)) ∗ owns (c : Thread nD τ) arg9 fullShare (accum x0 x1 x2 x3 (k0_pay1 (F := F)))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  sl_exec (disch := first | sl_exact hc0 | sl_exact hc1 | sl_exact hc2 | sl_exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro; exact hf6
  isplitl [HS0]
  · iexists _; isplitr; swap; · iexact HS0
    ipureintro; subst hf0 hf1 hf2 hf3 hf4 hf5 hf6 hfs0 hfs1
    refine (View.read_writes_cons_put _ _ _ _ _ rfl).trans ?_
    rw [View.writes_nil, View.readAt_full, View.readAt_full]
    rfl
  iexists _; isplitr; swap; · iexact HS1
  ipureintro; subst hf0 hf1 hf2 hf3 hf4 hf5 hf6 hfs0 hfs1
  have e1 : runA.sl.r c arg1 arg2 arg3 arg4 f0 f1 f2 f3 = sumOf (arg1.view.read (Elt F) f0) (arg2.view.read (Elt F) f1) (arg3.view.read (Elt F) f2) (arg4.view.read (Elt F) f3) := by
    unfold runA.sl.r
    rw [View.readAt_full, View.readAt_full]
    rfl
  have e2 : runA.sl.r_1 c arg1 arg2 arg3 arg4 f0 f1 f2 f3 = sqOf (arg1.view.read (Elt F) f0) (arg2.view.read (Elt F) f1) (arg3.view.read (Elt F) f2) (arg4.view.read (Elt F) f3) := by
    unfold runA.sl.r_1
    rw [View.readAt_full, View.readAt_full]
    rfl
  unfold runA.sl.v51 runA.sl.HS1_1
  rw [e1, e2]
  refine (View.read_writes_cons_put _ _ _ _ _ rfl).trans ?_
  have e3 := View.read_writes_full (Val := Elt F) arg9.view fs1 (off := ![0, 0]) inb_S16x128_S16x128_0_0 (k0_pay1 (F := F)) []
  have e4 := cov_whole (F := F) arg9.view (off := ![0, 0]) inb_S16x128_S16x128_0_0 inb_S16x128_S16x2_0_0 (k0_pay1 (F := F))
  unfold accum
  exact congrArg₂ (fun (d : Vec F S16x128 .f32) (w : Vec F S16x2 .f32) => put d ![0, 0] S16x2.size (k0_pay2 _ _ w)) e3 e4

end Cert.KernelIdeal.Conv

end
-- ==== Proof.RunB.lean ====
module

public import proofs.«01_k».proof.Proof.Gen.KernelIdeal.Frame
public import Idealize.ShloMosaic.Lib.Pipeline.FrameBody
public import Idealize.ShloMosaic.Lib.Pipeline.FrameSuffix
public import Idealize.ShloMosaic.Lib.Tactic
public import Idealize.ShloMosaic.Lib.WordCmp
public import Idealize.ShloMosaic.Lib.VecWindow
public import proofs.«01_k».proof.Proof.Gen.KernelIdeal.Skeleton
public import proofs.«01_k».proof.Proof.Point

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow

variable {F : FTy → Type} [FloatOps F]

local notation "𝕄" => MT nD τ sig Unit (Elt F) ℕ (UR sig nD τ) ℕ

set_option maxHeartbeats 1000000 in
/-- The body at a later point of the first half: the block is computed, stored and summed. -/
theorem runB (c : Dev nD) (i : grid0.Coords) (arg1 : Memref sig .tc .vmem S16x65536 .f32) (harg1 : arg1.IsWhole) (arg2 : Memref sig .tc .vmem S4x65536 .f32) (harg2 : arg2.IsWhole) (arg3 : Memref sig .tc .vmem S16x64 .f32) (harg3 : arg3.IsWhole) (arg4 : Memref sig .tc .vmem S16x128 .f32) (harg4 : arg4.IsWhole)
    (arg5 : Memref sig .tc .vmem S16x128 .f32) (harg5 : arg5.IsWhole) (arg6 : Memref sig .tc .vmem S16x128 .f32) (harg6 : arg6.IsWhole) (arg7 : Memref sig .tc .vmem S16x65536 .f32) (harg7 : arg7.IsWhole) (arg8 : Memref sig .tc .vmem S16x1048576 .bf16) (harg8 : arg8.IsWhole) (arg9 : Memref sig .tc .vmem S16x128 .f32) (harg9 : arg9.IsWhole)
    (hc0 : ¬cond0_0 i) (hc1 : cond0_1 i) (hc2 : ¬cond0_2 i) (hc3 : ¬cond0_3 i)
    (x0 : Vec F S16x65536 .f32) (x1 : Vec F S4x65536 .f32) (x2 : Vec F S16x64 .f32) (x3 : Vec F S16x128 .f32) (x4 : Vec F S16x128 .f32) (x5 : Vec F S16x128 .f32) (z : Vec F S16x65536 .f32) (d8 : Vec F S16x1048576 .bf16) (d9 : Vec F S16x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare z ∗ owns (c : Thread nD τ) arg8 fullShare d8 ∗ owns (c : Thread nD τ) arg9 fullShare d9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare z ∗ owns (c : Thread nD τ) arg8 fullShare (put d8 (k0_off1 i) S16x65536.size (yCast x0 x1 x2 x3)) ∗ owns (c : Thread nD τ) arg9 fullShare (accum x0 x1 x2 x3 d9)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  sl_exec (disch := first | sl_exact hc0 | sl_exact hc1 | sl_exact hc2 | sl_exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro; exact hf6
  isplitl [HS0]
  · iexists _; isplitr; swap; · iexact HS0
    ipureintro; subst hf0 hf1 hf2 hf3 hf4 hf5 hf6 hfs0 hfs1
    refine (View.read_writes_cons_put _ _ _ _ _ rfl).trans ?_
    rw [View.writes_nil, View.readAt_full, View.readAt_full]
    rfl
  iexists _; isplitr; swap; · iexact HS1
  ipureintro; subst hf0 hf1 hf2 hf3 hf4 hf5 hf6 hfs0 hfs1
  have e1 : runB.sl.r c arg1 arg2 arg3 arg4 f0 f1 f2 f3 = sumOf (arg1.view.read (Elt F) f0) (arg2.view.read (Elt F) f1) (arg3.view.read (Elt F) f2) (arg4.view.read (Elt F) f3) := by
    unfold runB.sl.r
    rw [View.readAt_full, View.readAt_full]
    rfl
  have e2 : runB.sl.r_1 c arg1 arg2 arg3 arg4 f0 f1 f2 f3 = sqOf (arg1.view.read (Elt F) f0) (arg2.view.read (Elt F) f1) (arg3.view.read (Elt F) f2) (arg4.view.read (Elt F) f3) := by
    unfold runB.sl.r_1
    rw [View.readAt_full, View.readAt_full]
    rfl
  rw [e1, e2]
  refine (View.read_writes_cons_put _ _ _ _ _ rfl).trans ?_
  rw [View.writes_nil]
  rfl

end Cert.KernelIdeal.Conv

end
-- ==== Proof.RunC.lean ====
module

public import proofs.«01_k».proof.Proof.Gen.KernelIdeal.Frame
public import Idealize.ShloMosaic.Lib.Pipeline.FrameBody
public import Idealize.ShloMosaic.Lib.Pipeline.FrameSuffix
public import Idealize.ShloMosaic.Lib.Tactic
public import Idealize.ShloMosaic.Lib.WordCmp
public import Idealize.ShloMosaic.Lib.VecWindow
public import proofs.«01_k».proof.Proof.Gen.KernelIdeal.Skeleton
public import proofs.«01_k».proof.Proof.Point

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow

variable {F : FTy → Type} [FloatOps F]

local notation "𝕄" => MT nD τ sig Unit (Elt F) ℕ (UR sig nD τ) ℕ

set_option maxHeartbeats 1000000 in
/-- The body at the last point of the first half: after the block has been summed the scale and the shift are computed. -/
theorem runC (c : Dev nD) (i : grid0.Coords) (arg1 : Memref sig .tc .vmem S16x65536 .f32) (harg1 : arg1.IsWhole) (arg2 : Memref sig .tc .vmem S4x65536 .f32) (harg2 : arg2.IsWhole) (arg3 : Memref sig .tc .vmem S16x64 .f32) (harg3 : arg3.IsWhole) (arg4 : Memref sig .tc .vmem S16x128 .f32) (harg4 : arg4.IsWhole)
    (arg5 : Memref sig .tc .vmem S16x128 .f32) (harg5 : arg5.IsWhole) (arg6 : Memref sig .tc .vmem S16x128 .f32) (harg6 : arg6.IsWhole) (arg7 : Memref sig .tc .vmem S16x65536 .f32) (harg7 : arg7.IsWhole) (arg8 : Memref sig .tc .vmem S16x1048576 .bf16) (harg8 : arg8.IsWhole) (arg9 : Memref sig .tc .vmem S16x128 .f32) (harg9 : arg9.IsWhole)
    (hc0 : ¬cond0_0 i) (hc1 : cond0_1 i) (hc2 : cond0_2 i) (hc3 : ¬cond0_3 i)
    (x0 : Vec F S16x65536 .f32) (x1 : Vec F S4x65536 .f32) (x2 : Vec F S16x64 .f32) (x3 : Vec F S16x128 .f32) (x4 : Vec F S16x128 .f32) (x5 : Vec F S16x128 .f32) (z : Vec F S16x65536 .f32) (d8 : Vec F S16x1048576 .bf16) (d9 : Vec F S16x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare z ∗ owns (c : Thread nD τ) arg8 fullShare d8 ∗ owns (c : Thread nD τ) arg9 fullShare d9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare z ∗ owns (c : Thread nD τ) arg8 fullShare (put d8 (k0_off1 i) S16x65536.size (yCast x0 x1 x2 x3)) ∗ owns (c : Thread nD τ) arg9 fullShare (finish x4 x5 (accum x0 x1 x2 x3 d9))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  sl_exec (disch := first | sl_exact hc0 | sl_exact hc1 | sl_exact hc2 | sl_exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro; exact hf6
  isplitl [HS0]
  · iexists _; isplitr; swap; · iexact HS0
    ipureintro; subst hf0 hf1 hf2 hf3 hf4 hf5 hf6 hfs0 hfs1
    refine (View.read_writes_cons_put _ _ _ _ _ rfl).trans ?_
    rw [View.writes_nil, View.readAt_full, View.readAt_full]
    rfl
  iexists _; isplitr; swap; · iexact HS1
  ipureintro; subst hf0 hf1 hf2 hf3 hf4 hf5 hf6 hfs0 hfs1
  have e1 : runC.sl.r c arg1 arg2 arg3 arg4 f0 f1 f2 f3 = sumOf (arg1.view.read (Elt F) f0) (arg2.view.read (Elt F) f1) (arg3.view.read (Elt F) f2) (arg4.view.read (Elt F) f3) := by
    unfold runC.sl.r
    rw [View.readAt_full, View.readAt_full]
    rfl
  have e2 : runC.sl.r_1 c arg1 arg2 arg3 arg4 f0 f1 f2 f3 = sqOf (arg1.view.read (Elt F) f0) (arg2.view.read (Elt F) f1) (arg3.view.read (Elt F) f2) (arg4.view.read (Elt F) f3) := by
    unfold runC.sl.r_1
    rw [View.readAt_full, View.readAt_full]
    rfl
  unfold runC.sl.v12 runC.sl.v13 runC.sl.HS1_1
  rw [e1, e2]
  have hz : ∀ (d : Vec F S16x128 .f32) (w : Vec F S16x2 .f32),
      arg9.view.readCov [⟨Rect.unit (s := S16x128) ![0, 0] S16x2.size inb_S16x128_S16x2_0_0, w⟩] (Rect.unit (s := S16x128) ![0, 0] S16x1.size inb_S16x128_S16x1_0_0).toLoadRect
        = col0 (put d ![0, 0] S16x2.size w) := fun d w => cov_inside (F := F) arg9.view d _ _ w (by decide)
  have ho : ∀ (d : Vec F S16x128 .f32) (w : Vec F S16x2 .f32),
      arg9.view.readCov [⟨Rect.unit (s := S16x128) ![0, 0] S16x2.size inb_S16x128_S16x2_0_0, w⟩] (Rect.unit (s := S16x128) ![0, 1] S16x1.size inb_S16x128_S16x1_0_1).toLoadRect
        = col1 (put d ![0, 0] S16x2.size w) := fun d w => cov_inside (F := F) arg9.view d _ _ w (by decide)
  have h1 : ∀ (w0 : Vec F S16x2 .f32) (w2 w3 : Vec F S16x1 .f32),
      arg9.view.read (Elt F) (arg9.view.writes (Elt F) fs1 [⟨Rect.unit (s := S16x128) ![0, 3] S16x1.size inb_S16x128_S16x1_0_3, w3⟩,
        ⟨Rect.unit (s := S16x128) ![0, 2] S16x1.size inb_S16x128_S16x1_0_2, w2⟩, ⟨Rect.unit (s := S16x128) ![0, 0] S16x2.size inb_S16x128_S16x2_0_0, w0⟩])
        = put (put (put (arg9.view.read (Elt F) fs1) ![0, 0] S16x2.size w0) ![0, 2] S16x1.size w2) ![0, 3] S16x1.size w3 := fun w0 w2 w3 => by
    rw [View.read_writes_cons_put _ _ _ _ _ rfl, View.read_writes_cons_put _ _ _ _ _ rfl, View.read_writes_cons_put _ _ _ _ _ rfl, View.writes_nil]
  refine (h1 _ _ _).trans ?_
  have key : ∀ (D : Vec F S16x128 .f32) (a a' b b' g h : Vec F S16x1 .f32), a = a' → b = b' →
      put (put D ![0, 2] S16x1.size (k0_pay5 a b g)) ![0, 3] S16x1.size (k0_pay6 a b g h)
        = put (put D ![0, 2] S16x1.size (k0_pay5 a' b' g)) ![0, 3] S16x1.size (k0_pay6 a' b' g h) := fun D a a' b b' g h ha hb => by
    subst ha hb; rfl
  exact key _ _ _ _ _ _ _ (hz (arg9.view.read (Elt F) fs1) _) (ho (arg9.view.read (Elt F) fs1) _)

end Cert.KernelIdeal.Conv

end
-- ==== Proof.RunD.lean ====
module

public import proofs.«01_k».proof.Proof.Gen.KernelIdeal.Frame
public import Idealize.ShloMosaic.Lib.Pipeline.FrameBody
public import Idealize.ShloMosaic.Lib.Pipeline.FrameSuffix
public import Idealize.ShloMosaic.Lib.Tactic
public import Idealize.ShloMosaic.Lib.WordCmp
public import Idealize.ShloMosaic.Lib.VecWindow
public import proofs.«01_k».proof.Proof.Gen.KernelIdeal.Skeleton
public import proofs.«01_k».proof.Proof.Point

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow

variable {F : FTy → Type} [FloatOps F]

local notation "𝕄" => MT nD τ sig Unit (Elt F) ℕ (UR sig nD τ) ℕ

set_option maxHeartbeats 1000000 in
/-- The body at a point of the second half: the stored block is scaled and shifted into the output block. -/
theorem runD (c : Dev nD) (i : grid0.Coords) (arg1 : Memref sig .tc .vmem S16x65536 .f32) (harg1 : arg1.IsWhole) (arg2 : Memref sig .tc .vmem S4x65536 .f32) (harg2 : arg2.IsWhole) (arg3 : Memref sig .tc .vmem S16x64 .f32) (harg3 : arg3.IsWhole) (arg4 : Memref sig .tc .vmem S16x128 .f32) (harg4 : arg4.IsWhole)
    (arg5 : Memref sig .tc .vmem S16x128 .f32) (harg5 : arg5.IsWhole) (arg6 : Memref sig .tc .vmem S16x128 .f32) (harg6 : arg6.IsWhole) (arg7 : Memref sig .tc .vmem S16x65536 .f32) (harg7 : arg7.IsWhole) (arg8 : Memref sig .tc .vmem S16x1048576 .bf16) (harg8 : arg8.IsWhole) (arg9 : Memref sig .tc .vmem S16x128 .f32) (harg9 : arg9.IsWhole)
    (hc0 : ¬cond0_0 i) (hc1 : ¬cond0_1 i) (hc2 : ¬cond0_2 i) (hc3 : cond0_3 i)
    (x0 : Vec F S16x65536 .f32) (x1 : Vec F S4x65536 .f32) (x2 : Vec F S16x64 .f32) (x3 : Vec F S16x128 .f32) (x4 : Vec F S16x128 .f32) (x5 : Vec F S16x128 .f32) (z : Vec F S16x65536 .f32) (d8 : Vec F S16x1048576 .bf16) (d9 : Vec F S16x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare z ∗ owns (c : Thread nD τ) arg8 fullShare d8 ∗ owns (c : Thread nD τ) arg9 fullShare d9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outOf i hc3 d8 d9) ∗ owns (c : Thread nD τ) arg8 fullShare d8 ∗ owns (c : Thread nD τ) arg9 fullShare d9) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  sl_exec (disch := first | sl_exact hc0 | sl_exact hc1 | sl_exact hc2 | sl_exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro; subst hf0 hf1 hf2 hf3 hf4 hf5 hf6 hfs0 hfs1
    rw [View.read_writes_full]
    rfl
  isplitl [HS0]
  · iexists _; isplitr; swap; · iexact HS0
    ipureintro; exact hfs0
  iexists _; isplitr; swap; · iexact HS1
  ipureintro; exact hfs1

end Cert.KernelIdeal.Conv

end
-- ==== Proof.Contents.lean ====
module

public import proofs.«01_k».proof.Proof.Gen.KernelIdeal.Frame
public import Idealize.ShloMosaic.Lib.Pipeline.FrameBody
public import Idealize.ShloMosaic.Lib.Pipeline.FrameSuffix
public import Idealize.ShloMosaic.Lib.Tactic
public import Idealize.ShloMosaic.Lib.WordCmp
public import Idealize.ShloMosaic.Lib.VecWindow
public import proofs.«01_k».proof.Proof.Gen.KernelIdeal.Skeleton
public import proofs.«01_k».proof.Proof.Point

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow

variable {F : FTy → Type} [FloatOps F]

local notation "𝕄" => MT nD τ sig Unit (Elt F) ℕ (UR sig nD τ) ℕ

variable (m : (ℓ : Loc nD τ sig) → Buf (Elt F) ℓ)

/-! ## What the two scratch buffers hold, point by point -/

/-- The number of points is 32. -/
theorem lt32 (t : Fin cfg0.N) : t.val < 32 := lt_of_lt_of_eq t.isLt (show cfg0.N = 32 from N_0)

/-- The point at a position below 32. -/
abbrev pt (n : ℕ) (h : n < 32) : Fin cfg0.N := ⟨n, h.trans_eq (show 32 = cfg0.N from N_0.symm)⟩

/-- The block of rectified convolutions computed at point `n`, as stored. -/
def yBlk (c : Dev nD) (t : Fin cfg0.N) : Vec F S16x65536 .bf16 := yCast (iblk m c 0 t) (iblk m c 1 t) (iblk m c 2 t) (iblk m c 3 t)

/-- The statistics after the first `n` points have been summed: cleared, then one block at a time. -/
def sums (c : Dev nD) : ℕ → Vec F S16x128 .f32
  | 0 => k0_pay1
  | n + 1 => if h : n < 32 then accum (iblk m c 0 (pt n h)) (iblk m c 1 (pt n h)) (iblk m c 2 (pt n h)) (iblk m c 3 (pt n h)) (sums c n) else sums c n

theorem sums_succ (c : Dev nD) (t : Fin cfg0.N) : sums m c (t.val + 1) = accum (iblk m c 0 t) (iblk m c 1 t) (iblk m c 2 t) (iblk m c 3 t) (sums m c t.val) :=
  (dif_pos (lt32 t) : sums m c (t.val + 1) = _)

/-- The statistics buffer after the first `n` points: the sums, and from point 16 on also the scale and the shift. -/
def stats (c : Dev nD) (n : ℕ) : Vec F S16x128 .f32 :=
  if n < 16 then sums m c n else finish (iblk m c 4 (pt 15 (by decide))) (iblk m c 5 (pt 15 (by decide))) (sums m c 16)

/-- The block of results written at point `t` of the second half: block `t - 16` of the stored ones, scaled and shifted. -/
def oBlk (c : Dev nD) (t : Fin cfg0.N) : Vec F S16x65536 .f32 :=
  k0_pay7 (yBlk m c ⟨t.val - 16, lt_of_le_of_lt (Nat.sub_le _ _) t.isLt⟩) (col2 (stats m c 16)) (col3 (stats m c 16))

/-- A block of the stored array lies inside it. -/
theorem inbY (j : ℕ) (hj : j < 16) : ∀ a, (![0, 65536 * j] : Fin 2 → ℕ) a + S16x65536.size a ≤ S16x1048576.size a := fun a => by
  match a with
  | ⟨0, _⟩ => exact le_of_eq rfl
  | ⟨1, _⟩ => show 65536 * j + 65536 ≤ 1048576; omega

/-- The first blocks of the stored array, those before point `n`, are the ones computed. -/
def Filled (c : Dev nD) (n : ℕ) (d : Vec F S16x1048576 .bf16) : Prop :=
  ∀ (j : ℕ) (hj : j < 16), j < n → window d ![0, 65536 * j] S16x65536.size (inbY j hj) = yBlk m c (pt j (by omega))

/-- The block a point of the first half stores starts at that point's columns. -/
theorem off1_at (t : Fin cfg0.N) : k0_off1 (grid0.coords t) = ![0, 65536 * t.val] := by
  have e0 : (grid0.coords t 0).val = t.val / 1 % 32 := Pipeline.Grid.coords_val t 0 (by decide) rfl
  have := lt32 t
  rw [k0_off1_eq, e0, Nat.div_one, Nat.mod_eq_of_lt this]

/-- The block a point of the second half reads starts at the columns of the point 16 before. -/
theorem off2_at : ∀ t : Fin cfg0.N, 16 ≤ t.val → k0_off2 (grid0.coords t) = ![0, 65536 * (t.val - 16)] :=
  (by decide +kernel : ∀ t : Fin grid0.N, 16 ≤ t.val → k0_off2 (grid0.coords t) = ![0, 65536 * (t.val - 16)])

/-- Storing point `t`'s block keeps the earlier blocks and adds that one. -/
theorem filled_step (c : Dev nD) (t : Fin cfg0.N) (ht : t.val < 16) (d : Vec F S16x1048576 .bf16) (h : t.val ≠ 0 → Filled m c t.val d) :
    Filled m c (t.val + 1) (put d (k0_off1 (grid0.coords t)) S16x65536.size (yBlk m c t)) := fun j hj hlt => by
  rw [off1_at]
  by_cases e : j = t.val
  · subst e
    exact window_put_same _ _ _ _ _
  · rw [window_put_of_disjoint _ _ _ _ _ _ _ (1 : Fin 2) (Or.inl (by show 65536 * j + 65536 ≤ 65536 * t.val; omega))]
    exact h (by omega) j hj (by omega)

/-- What a point of the second half writes, from an array whose 16 blocks are the computed ones. -/
theorem outOf_eq (c : Dev nD) (t : Fin cfg0.N) (ht : 16 ≤ t.val) (h3 : k0_cond4 (grid0.coords t) = 1#1) (d : Vec F S16x1048576 .bf16) (h : Filled m c t.val d) :
    outOf (grid0.coords t) h3 d (stats m c 16) = oBlk m c t := by
  have hN := lt32 t
  have key : ∀ (off : Fin 2 → ℕ) (e : off = ![0, 65536 * (t.val - 16)]) (inb : ∀ a, off a + S16x65536.size a ≤ S16x1048576.size a),
      window d off S16x65536.size inb = yBlk m c ⟨t.val - 16, lt_of_le_of_lt (Nat.sub_le _ _) t.isLt⟩ := fun off e inb => by
    subst e
    exact h (t.val - 16) (by omega) (by omega)
  unfold outOf oBlk
  rw [key _ (off2_at t ht)]

/-- The statistics at the first point, -/
theorem stats_first (c : Dev nD) (t : Fin cfg0.N) (ht : t.val = 0) : stats m c (t.val + 1) = accum (iblk m c 0 t) (iblk m c 1 t) (iblk m c 2 t) (iblk m c 3 t) (k0_pay1 (F := F)) := by
  have e : sums m c t.val = k0_pay1 := by rw [ht]; rfl
  unfold stats
  rw [if_pos (by omega), sums_succ, e]

/-- at a later point of the first half, -/
theorem stats_next (c : Dev nD) (t : Fin cfg0.N) (ht : t.val < 15) : stats m c (t.val + 1) = accum (iblk m c 0 t) (iblk m c 1 t) (iblk m c 2 t) (iblk m c 3 t) (stats m c t.val) := by
  unfold stats
  rw [if_pos (by omega), if_pos (by omega), sums_succ]

/-- at its last point, -/
theorem stats_last (c : Dev nD) (t : Fin cfg0.N) (ht : t.val = 15) :
    stats m c (t.val + 1) = finish (iblk m c 4 t) (iblk m c 5 t) (accum (iblk m c 0 t) (iblk m c 1 t) (iblk m c 2 t) (iblk m c 3 t) (stats m c t.val)) := by
  obtain rfl : t = pt 15 (by decide) := Fin.ext ht
  unfold stats
  rw [if_neg (by decide), if_pos (by decide), ← sums_succ]

/-- and in the second half, where nothing changes. -/
theorem stats_keep (c : Dev nD) (n : ℕ) (hn : 16 ≤ n) : stats m c n = stats m c 16 := by
  unfold stats
  rw [if_neg (by omega), if_neg (by decide)]

end Cert.KernelIdeal.Conv

end
-- ==== Proof.Body.lean ====
module

public import proofs.«01_k».proof.Proof.Gen.KernelIdeal.Frame
public import Idealize.ShloMosaic.Lib.Pipeline.FrameBody
public import Idealize.ShloMosaic.Lib.Pipeline.FrameSuffix
public import Idealize.ShloMosaic.Lib.Tactic
public import Idealize.ShloMosaic.Lib.WordCmp
public import Idealize.ShloMosaic.Lib.VecWindow
public import proofs.«01_k».proof.Proof.Gen.KernelIdeal.Skeleton
public import proofs.«01_k».proof.Proof.RunA
public import proofs.«01_k».proof.Proof.RunB
public import proofs.«01_k».proof.Proof.RunC
public import proofs.«01_k».proof.Proof.RunD
public import proofs.«01_k».proof.Proof.Contents

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow

variable {F : FTy → Type} [FloatOps F]

local notation "𝕄" => MT nD τ sig Unit (Elt F) ℕ (UR sig nD τ) ℕ

variable (m : (ℓ : Loc nD τ sig) → Buf (Elt F) ℓ)

/-! ## The output window: idle over the first half, live over the second -/

theorem idle6 : ∀ t : Fin cfg0.N, t.val < 16 → cfg0.idle 6 (grid0.coords t) = true :=
  (by decide +kernel : ∀ t : Fin grid0.N, t.val < 16 → idle0 6 (grid0.coords t) = true)
theorem live6 : ∀ t : Fin cfg0.N, 16 ≤ t.val → cfg0.idle 6 (grid0.coords t) = false :=
  (by decide +kernel : ∀ t : Fin grid0.N, 16 ≤ t.val → idle0 6 (grid0.coords t) = false)
/-- Its block is written back at the points of the second half and at no other. -/
theorem flush6 : ∀ t : Fin cfg0.N, (cfg0.win 6).flush t = true ↔ 16 ≤ t.val :=
  (by decide +kernel : ∀ t : Fin grid0.N, (cfg0.win 6).flush t = true ↔ 16 ≤ t.val)

/-! ## The invariant and the proof data -/

/-- The invariant after `n + 1` points: the stored array has its blocks so far, the statistics are the named ones. -/
def PhiN (c : Dev nD) (n : ℕ) : sProp 𝕄 :=
  iprop(iprop((∃ d, ⌜Filled m c n d⌝ ∗ owns (c : Thread nD τ) scM0_0 fullShare d) ∗ owns (c : Thread nD τ) scM0_1 fullShare (stats m c n)) ∗ (∃ r, prngReg c r))

/-- The invariant before position `n`: at the first point the scratch holds anything. -/
def PhiS (c : Dev nD) : (n : ℕ) → n ≤ cfg0.N → sProp 𝕄
  | 0, _ => Pipeline.ΦA spec0 c
  | n + 1, _ => PhiN m c (n + 1)

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop((∃ d, ⌜Filled m c n d⌝ ∗ owns (c : Thread nD τ) scM0_0 fullShare d) ∗ owns (c : Thread nD τ) scM0_1 fullShare (stats m c n)) ∗ (∃ r, prngReg c r)) := by
  cases n with
  | zero => exact absurd rfl hz
  | succ n => rfl

/-- The proof data: each input's buffer keeps its block; the output's holds, at the points of the second half, `oBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What the body leaves and finds in each window's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = oBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem leaves_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves_5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after0_5]

theorem leaves_6_idle (c : Dev nD) (t : Fin cfg0.N) (ht : t.val < 16) :
    (dats m 0 c).leavesExact 6 t = iprop(∃ d, owns (c : Thread nD τ) (ms0_6 t) fullShare ((dats m 0 c).before 6 t d)) :=
  Dat.leavesExact_idle _ 6 t (idle6 t ht) (by
    by_contra hf
    have := (flush6 t).mp (by simpa using hf)
    omega)
theorem leaves_6_live (c : Dev nD) (t : Fin cfg0.N) (ht : 16 ≤ t.val) :
    (dats m 0 c).leavesExact 6 t = owns (c : Thread nD τ) (ms0_6 t) fullShare (oBlk m c t) := by
  rw [show (dats m 0 c).leavesExact 6 t = owns (c : Thread nD τ) (ms0_6 t) fullShare ((dats m 0 c).after 6 t) from by
    unfold Dat.leavesExact; rw [live6 t ht], after0_6]

/-! ## The body at any point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 12800000 in
/-- The body at any point takes the invariant before it to the invariant after it, leaving the windows' buffers as the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiN m c (t.val + 1) from rfl]
  unfold PhiN
  have hN := lt32 t
  rw [leaves_0 m c t]
  rw [leaves_1 m c t]
  rw [leaves_2 m c t]
  rw [leaves_3 m c t]
  rw [leaves_4 m c t]
  rw [leaves_5 m c t]
  by_cases hz : t.val = 0
  · rw [stats_first m c t hz]
    rw [PhiS_castSucc m c t, PhiS_zero m c _ _ hz, PhiA0_eq]
    rw [leaves_6_idle m c t (by omega)]
    iintro ⟨⟨⟨⟨%d8, HS0⟩, ⟨%d9, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ _ _ _ _ ((hcond0_0 t).mpr (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) ((dats m 0 c).before 6 t d6) d8 d9 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexists _
          isplitr; swap; · iexact HS0
          ipureintro; exact filled_step m c t (by omega) d8 (fun h => absurd hz h)
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  by_cases h1 : t.val < 15
  · rw [stats_next m c t h1]
    rw [PhiS_castSucc m c t, PhiS_pos m c _ _ hz]
    rw [leaves_6_idle m c t (by omega)]
    iintro ⟨⟨⟨⟨%d8, %hd8, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ _ _ _ _ (fun h => absurd ((hcond0_0 t).mp h) (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) ((dats m 0 c).before 6 t d6) d8 (stats m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexists _
          isplitr; swap; · iexact HS0
          ipureintro; exact filled_step m c t (by omega) d8 (fun _ => hd8)
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  by_cases h2 : t.val = 15
  · rw [stats_last m c t h2]
    rw [PhiS_castSucc m c t, PhiS_pos m c _ _ hz]
    rw [leaves_6_idle m c t (by omega)]
    iintro ⟨⟨⟨⟨%d8, %hd8, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (runC c (grid0.coords t) _ _ _ _ _ _ _ _ _ _ _ _ _ _ _ _ _ _ (fun h => absurd ((hcond0_0 t).mp h) (by omega)) ((hcond0_1 t).mpr (by omega)) ((hcond0_2 t).mpr (by omega)) (fun h => absurd ((hcond0_3 t).mp h) (by omega)) (iblk m c 0 t) (iblk m c 1 t) (iblk m c 2 t) (iblk m c 3 t) (iblk m c 4 t) (iblk m c 5 t) ((dats m 0 c).before 6 t d6) d8 (stats m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexists _
          isplitr; swap; · iexact HS0
          ipureintro; exact filled_step m c t (by omega) d8 (fun _ => hd8)
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h16 : 16 ≤ t.val := by omega
    rw [stats_keep m c (t.val + 1) (by omega), ← stats_keep m c t.val h16]
    rw [PhiS_castSucc m c t, PhiS_pos m c _ _ hz]
    rw [leaves_6_live m c t (by omega)]
    iintro ⟨⟨⟨⟨%d8, %hd8, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (runD c (grid0.coords t) _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_3 t).mpr (by omega)) (iblk m c 0 t) (iblk m c 1 t) (iblk m c 2 t) (iblk m c 3 t) (iblk m c 4 t) (iblk m c 5 t) ((dats m 0 c).before 6 t d6) d8 (stats m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexists _
          isplitr; swap; · iexact HS0
          ipureintro; exact fun j hj _ => hd8 j hj (by omega)
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [show oBlk m c t = outOf (grid0.coords t) ((hcond0_3 t).mpr h16) d8 (stats m c t.val) from by
      rw [stats_keep m c t.val h16]; exact (outOf_eq m c t h16 _ d8 hd8).symm]
    iexact H6

/-- The body named by the launch is the printed one. -/
theorem defs₀_row (t : Fin cfg0.N) : (defs₀ (F := F)) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the named contents are forgotten. -/
theorem hout (c : Dev nD) : (dats m 0 c).Φ (Fin.last cfg0.N) ⊢ Pipeline.ΦA spec0 c := by
  have hz : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ hz, PhiA0_eq]
  iintro ⟨⟨⟨%d, -, HS0⟩, HS1⟩, Hg⟩
  isplitl [HS0 HS1]
  · isplitl [HS0]
    · iexists _; iexact HS0
    iexists _; iexact HS1
  iexact Hg

end Cert.KernelIdeal.Conv

end
-- ==== Proof.Launch.lean ====
module

public import proofs.«01_k».proof.Proof.Gen.KernelIdeal.Frame
public import Idealize.ShloMosaic.Lib.Pipeline.FrameBody
public import Idealize.ShloMosaic.Lib.Pipeline.FrameSuffix
public import Idealize.ShloMosaic.Lib.Tactic
public import Idealize.ShloMosaic.Lib.WordCmp
public import Idealize.ShloMosaic.Lib.VecWindow
public import proofs.«01_k».proof.Proof.Gen.KernelIdeal.Skeleton
public import proofs.«01_k».proof.Proof.Body
public import Idealize.ShloMosaic.Lib.Claim

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 800000 in
/-- The launch: every execution ends with the arrays as the proof data say, the host lines after the region run on them, and with every semaphore counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_quiescent m ρ))

end Cert.KernelIdeal.Conv

end
-- ==== Proof.Formula.lean ====
module

public import Mathlib.Data.EReal.Operations
public import Mathlib.Algebra.BigOperators.Fin

@[expose] public section

noncomputable section

/-! # The quantities both programs compute, over the extended reals -/

namespace Cert.Formula

/-- The rectified convolution of point `n` at output channel `o`: `max (Σ_b Σ_i C n b * X n i * W o i b + B o) 0`. -/
def y (X : Fin 1048576 → Fin 16 → EReal) (C : Fin 1048576 → Fin 4 → EReal) (W : Fin 16 → Fin 16 → Fin 4 → EReal) (B : Fin 16 → EReal)
    (n : Fin 1048576) (o : Fin 16) : EReal :=
  max ((∑ b : Fin 4, ∑ i : Fin 16, C n b * X n i * W o i b) + B o) 0

/-- A sum over 64 entries is the sum over 4 groups of 16. -/
theorem sum64 (f : Fin 64 → EReal) (g : Fin 4 → Fin 16 → EReal)
    (h : ∀ k : Fin 64, f k = g ⟨k.val / 16, by omega⟩ ⟨k.val % 16, by omega⟩) : ∑ k, f k = ∑ b, ∑ i, g b i := by
  rw [← Fintype.sum_prod_type', ← (finProdFinEquiv (m := 4) (n := 16)).symm.sum_comp]
  refine Finset.sum_congr rfl fun k _ => ?_
  rw [h k]
  rfl

/-- A sum over 1048576 points is the sum over 16 blocks of 65536. -/
theorem sumBlocks (f : Fin 1048576 → EReal) :
    ∑ t : Fin 16, ∑ q : Fin 65536, f ⟨t.val * 65536 + q.val, by omega⟩ = ∑ n, f n := by
  rw [← Fintype.sum_prod_type', ← (finProdFinEquiv (m := 16) (n := 65536)).sum_comp]
  refine Finset.sum_congr rfl fun p _ => congrArg f (Fin.ext ?_)
  show p.1.val * 65536 + p.2.val = p.2.val + 65536 * p.1.val
  omega

end Cert.Formula

end
-- ==== Proof.Equation.lean ====
module

public import Idealize.ShloMosaic.PureOps.Ideal
public import Idealize.ShloMosaic.PureOps.Ideal.Laws
public import Mathlib.Tactic.FieldSimp
public import Mathlib.Tactic.Linarith
public import Mathlib.Tactic.Positivity
public import Mathlib.Tactic.Ring
public import Mathlib.Tactic.NormNum

@[expose] public section

noncomputable section

/-! # The two normalisations agree -/

namespace Cert.Formula

open Idealize.ShloMosaic

/-- The reference's normalisation of the values `Y` at row `n`, of factor `g` and shift `h`: the mean subtracted, divided by the root of the mean square
    deviation plus a constant, scaled and shifted. -/
def refOut (Y : Fin 1048576 → EReal) (g h : EReal) (n : Fin 1048576) : EReal :=
  Ideal.div (Y n - Ideal.div (∑ k, Y k) (Ideal.ofBits .f32 0x49800000#32))
      (Ideal.sqrt
        ((if 0 < Ideal.ofBits .f32 0x49800000#32 - FloatOps.sitofp (F := Ideal) .f32 0#32 then
            Ideal.div (∑ k, (Y k - Ideal.div (∑ k, Y k) (Ideal.ofBits .f32 0x49800000#32)) * (Y k - Ideal.div (∑ k, Y k) (Ideal.ofBits .f32 0x49800000#32)))
              (Ideal.ofBits .f32 0x49800000#32 - FloatOps.sitofp (F := Ideal) .f32 0#32)
          else Ideal.ofBits .f32 0x7FC00000#32) + Ideal.ofBits .f32 0x3A83126F#32))
    * g + h

/-- The kernel's factor, of the sum and the sum of squares. -/
def scale (s1 s2 g : EReal) : EReal :=
  g * Ideal.rsqrt (s2 * Ideal.ofBits .f32 0x35800000#32 - s1 * Ideal.ofBits .f32 0x35800000#32 * (s1 * Ideal.ofBits .f32 0x35800000#32) + Ideal.ofBits .f32 0x3A83126F#32)

/-- The kernel's normalisation: one factor and one shift per channel. -/
def kerOut (Y : Fin 1048576 → EReal) (g h : EReal) (n : Fin 1048576) : EReal :=
  Y n * scale (∑ k, Y k) (∑ k, Y k * Y k) g
    + (h - (∑ k, Y k) * Ideal.ofBits .f32 0x35800000#32 * scale (∑ k, Y k) (∑ k, Y k * Y k) g)

/-- The number of rows as a literal. -/
theorem bits_rows : Ideal.ofBits .f32 0x49800000#32 = ((1048576 : ℝ) : EReal) := by
  simp [Ideal.ofBits, Ideal.ieee]
  rw [← EReal.coe_mul]
  norm_num

/-- Its reciprocal as a literal. -/
theorem bits_inv : Ideal.ofBits .f32 0x35800000#32 = ((1 / 1048576 : ℝ) : EReal) := by
  simp [Ideal.ofBits, Ideal.ieee]
  rw [← EReal.coe_mul]
  norm_num

/-- The constant added under the root is positive. -/
theorem bits_eps : ∃ e : ℝ, 0 < e ∧ Ideal.ofBits .f32 0x3A83126F#32 = (e : EReal) := by
  refine ⟨8589935 * (2 ^ 33)⁻¹, by positivity, ?_⟩
  simp [Ideal.ofBits, Ideal.ieee]

/-- A sum of reals is real. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The number of degrees of freedom the reference subtracts is zero. -/
theorem sub_zero_dof : Ideal.ofBits .f32 0x49800000#32 - FloatOps.sitofp (F := Ideal) .f32 0#32 = ((1048576 : ℝ) : EReal) := by
  have e : (FloatOps.sitofp (F := Ideal) .f32 0#32 : EReal) = ((0 : ℝ) : EReal) := by
    show (((0#32 : BitVec 32).toInt : ℝ) : EReal) = ((0 : ℝ) : EReal)
    norm_num
  rw [bits_rows, e, ← EReal.coe_sub, sub_zero]

/-- The mean square deviation is the mean square less the square of the mean. -/
theorem variance (Y : Fin 1048576 → ℝ) (m : ℝ) (hm : m = (∑ k, Y k) * (1 / 1048576)) :
    (∑ k, (Y k - m) * (Y k - m)) * (1 / 1048576) = (∑ k, Y k * Y k) * (1 / 1048576) - m * m := by
  have e : ∑ k, (Y k - m) * (Y k - m) = (∑ k, Y k * Y k) - 2 * m * (∑ k, Y k) + 1048576 * (m * m) := by
    rw [Finset.sum_congr rfl fun k _ => show (Y k - m) * (Y k - m) = Y k * Y k - 2 * m * Y k + m * m by ring]
    rw [Finset.sum_add_distrib, Finset.sum_sub_distrib, ← Finset.mul_sum, Finset.sum_const, Finset.card_univ, Fintype.card_fin, nsmul_eq_mul]
    norm_num
  have s : ∑ k, Y k = 1048576 * m := by rw [hm]; ring
  rw [e, s]
  ring

/-- On real values the kernel's normalisation and the reference's are the same, whatever the shift. -/
theorem kerOut_eq_refOut (Y : Fin 1048576 → ℝ) (g : ℝ) (h : EReal) (n : Fin 1048576) :
    kerOut (fun k => (Y k : EReal)) (g : EReal) h n = refOut (fun k => (Y k : EReal)) (g : EReal) h n := by
  obtain ⟨e, he, heq⟩ := bits_eps
  obtain ⟨m, hm⟩ : ∃ m, m = (∑ k, Y k) * (1 / 1048576 : ℝ) := ⟨_, rfl⟩
  obtain ⟨v, hv⟩ : ∃ v, v = (∑ k, (Y k - m) * (Y k - m)) * (1 / 1048576 : ℝ) := ⟨_, rfl⟩
  have hv0 : 0 ≤ v := by
    rw [hv]
    exact mul_nonneg (Finset.sum_nonneg fun k _ => mul_self_nonneg _) (by norm_num)
  have hN : (1048576 : ℝ) ≠ 0 := by norm_num
  have hpos : 0 < v + e := by linarith
  have hroot : Real.sqrt (v + e) ≠ 0 := (Real.sqrt_pos.mpr hpos).ne'
  have hsc : scale (∑ k, (Y k : EReal)) (∑ k, (Y k : EReal) * (Y k : EReal)) (g : EReal) = ((g * (Real.sqrt (v + e))⁻¹ : ℝ) : EReal) := by
    unfold scale
    simp only [← EReal.coe_mul]
    rw [coe_sum, coe_sum, bits_inv, heq, ← EReal.coe_mul, ← EReal.coe_mul, ← EReal.coe_mul, ← EReal.coe_sub, ← EReal.coe_add, ← hm, ← variance Y m hm, ← hv,
      Ideal.rsqrt_coe, if_neg (not_lt.mpr hpos.le), if_neg hpos.ne', ← EReal.coe_mul]
  have hmean : Ideal.div (∑ k, (Y k : EReal)) (Ideal.ofBits .f32 0x49800000#32) = (m : EReal) := by
    rw [bits_rows, Ideal.div_coe hN, coe_sum, ← EReal.coe_mul, ← hm]
  have hvar : Ideal.div (∑ k, ((Y k : EReal) - (m : EReal)) * ((Y k : EReal) - (m : EReal))) ((1048576 : ℝ) : EReal) = (v : EReal) := by
    simp only [← EReal.coe_sub, ← EReal.coe_mul]
    rw [coe_sum, Ideal.div_coe hN, ← EReal.coe_mul, ← hv]
  have hlt : (0 : EReal) < ((1048576 : ℝ) : EReal) := by
    rw [← EReal.coe_zero, EReal.coe_lt_coe_iff]
    norm_num
  have hmean' : (∑ k, (Y k : EReal)) * Ideal.ofBits .f32 0x35800000#32 = (m : EReal) := by
    rw [bits_inv, coe_sum, ← EReal.coe_mul, ← hm]
  unfold kerOut refOut
  rw [hsc, hmean', sub_zero_dof, if_pos hlt, hmean, hvar, heq, ← EReal.coe_add, Ideal.sqrt_coe, if_neg (not_lt.mpr hpos.le), Ideal.div_coe hroot]
  show (Y n : EReal) * ((g * (Real.sqrt (v + e))⁻¹ : ℝ) : EReal) + (h - (m : EReal) * ((g * (Real.sqrt (v + e))⁻¹ : ℝ) : EReal))
    = ((Y n : EReal) - (m : EReal)) * ((1 / Real.sqrt (v + e) : ℝ) : EReal) * (g : EReal) + h
  rw [← EReal.coe_mul, ← EReal.coe_mul, ← EReal.coe_sub, ← EReal.coe_mul, ← EReal.coe_mul, sub_eq_add_neg, ← EReal.coe_neg, add_comm h, ← add_assoc, ← EReal.coe_add]
  refine congrArg (fun r : ℝ => (r : EReal) + h) ?_
  rw [one_div]
  ring

end Cert.Formula

end
-- ==== Proof.Finite.lean ====
module

public import proofs.«01_k».proof.Proof.Formula
public import proofs.«01_k».proof.Proof.Equation
public import Idealize.ShloMosaic.Lib.Claim

@[expose] public section

noncomputable section

/-! # Real entries -/

namespace Cert.Formula

open Idealize.ShloMosaic

/-- An extended real whose difference with itself is zero is a real number. -/
theorem real_of_sub (a : EReal) (h : a - a = 0) : ∃ r : ℝ, a = (r : EReal) := by
  induction a using EReal.rec with
  | bot => exact absurd h (by simp)
  | coe r => exact ⟨r, rfl⟩
  | top => exact absurd h (by simp)

/-- A value whose difference with itself compares equal to zero is real. -/
theorem real_of_cmp (a : EReal) (h : Ideal.cmp .oeq (a - a) (Ideal.ofBits .f32 0x00000000#32) = 1#1) : ∃ r : ℝ, a = (r : EReal) := by
  rw [Ideal.ofBits_zero_f32] at h
  refine real_of_sub a ?_
  by_contra hne
  simp [Ideal.cmp, hne] at h

/-- The rectified convolution of real arrays is real. -/
theorem y_real (X : Fin 1048576 → Fin 16 → EReal) (C : Fin 1048576 → Fin 4 → EReal) (W : Fin 16 → Fin 16 → Fin 4 → EReal) (B : Fin 16 → EReal)
    (hX : ∀ n i, ∃ r : ℝ, X n i = (r : EReal)) (hC : ∀ n b, ∃ r : ℝ, C n b = (r : EReal)) (hW : ∀ o i b, ∃ r : ℝ, W o i b = (r : EReal))
    (hB : ∀ o, ∃ r : ℝ, B o = (r : EReal)) (n : Fin 1048576) (o : Fin 16) : ∃ r : ℝ, y X C W B n o = (r : EReal) := by
  choose x hx using hX
  choose c hc using hC
  choose w hw using hW
  choose e he using hB
  refine ⟨max ((∑ b : Fin 4, ∑ i : Fin 16, c n b * x n i * w o i b) + e o) 0, ?_⟩
  unfold y
  simp only [hx, hc, hw, he, ← EReal.coe_mul, coe_sum, ← EReal.coe_add, ← EReal.coe_zero]
  exact (EReal.coe_strictMono.monotone.map_max).symm

end Cert.Formula

end
-- ==== Proof.Regular.lean ====
module

public import proofs.«01_k».proof.Defs
public import proofs.«01_k».proof.Proof.Finite
public import proofs.«01_k».proof.Proof.Gen.Pre_regular
public import proofs.«01_k».proof.Proof.Gen.KernelIdeal
public import Idealize.ShloMosaic.Lib.Claim
public import Idealize.ShloMosaic.Lib.Pointwise

@[expose] public section

set_option maxRecDepth 16384

noncomputable section

/-! # What the precondition `regular` says of the arrays -/

namespace Cert.Pre_regular.Conv

open Cert.Pre_regular Cert.Pre_regular.Gen
open Idealize.ShloMosaic Idealize.ShloMosaic.TcCoe Idealize.ShloMosaic.Tactic Cert.Formula

variable (x0 : FVec Ideal S1048576x16 .f32) (x1 : FVec Ideal S1048576x4 .f32) (x2 : IVec S1048576 32) (x3 : FVec Ideal S16x16x4 .f32) (x4 : FVec Ideal S1x16 .f32)
  (x5 x6 : FVec Ideal S16 .f32)

/-- The first answer: every texture count is one. -/
theorem count (h : (fn (F := Ideal) x0 x1 x2 x3 x4 x5 x6).1 = fun _ => 1#1) (n : Fin 1048576) : x2 (ix1 n) = 1#32 := by
  have e := congrFun h (ix1 n)
  have e' : BitVec.ofBool (x2 (ix1 n) == 1#32) = 1#1 := e
  cases hb : x2 (ix1 n) == 1#32 with
  | true => exact eq_of_beq hb
  | false =>
    rw [hb] at e'
    exact absurd e' (by decide)

/-- The second: the inputs are real. -/
theorem real0 (h : (fn (F := Ideal) x0 x1 x2 x3 x4 x5 x6).2.1 = fun _ => 1#1) (n : Fin 1048576) (i : Fin 16) : ∃ r : ℝ, (x0 (ix2 n i) : EReal) = (r : EReal) :=
  real_of_cmp _ (congrFun h (ix2 n i))

/-- The third: the coefficients are real. -/
theorem real1 (h : (fn (F := Ideal) x0 x1 x2 x3 x4 x5 x6).2.2.1 = fun _ => 1#1) (n : Fin 1048576) (b : Fin 4) : ∃ r : ℝ, (x1 (ix2 n b) : EReal) = (r : EReal) :=
  real_of_cmp _ (congrFun h (ix2 n b))

/-- The fourth: the weights are real. -/
theorem real3 (h : (fn (F := Ideal) x0 x1 x2 x3 x4 x5 x6).2.2.2.1 = fun _ => 1#1) (o i : Fin 16) (b : Fin 4) : ∃ r : ℝ, (x3 (ix3 o i b) : EReal) = (r : EReal) :=
  real_of_cmp _ (congrFun h (ix3 o i b))

/-- The fifth: the biases are real. -/
theorem real4 (h : (fn (F := Ideal) x0 x1 x2 x3 x4 x5 x6).2.2.2.2.1 = fun _ => 1#1) (o : Fin 16) : ∃ r : ℝ, (x4 (ix2 0 o) : EReal) = (r : EReal) :=
  real_of_cmp _ (congrFun h (ix2 0 o))

/-- The sixth: the normalisation's factors are real. -/
theorem real5 (h : (fn (F := Ideal) x0 x1 x2 x3 x4 x5 x6).2.2.2.2.2 = fun _ => 1#1) (o : Fin 16) : ∃ r : ℝ, (x5 (ix1 o) : EReal) = (r : EReal) :=
  real_of_cmp _ (congrFun h (ix1 o))

end Cert.Pre_regular.Conv

end
-- ==== Proof.Blocks.lean ====
module

public import proofs.«01_k».proof.Proof.Contents
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic

variable (m : (ℓ : Loc nD τ sig) → Buf (Elt Ideal) ℓ)

/-! ## The staged blocks, entry by entry, over the arguments -/

/-- Where each input window's block sits at each point of the first half. -/
theorem idx : ∀ t : Fin cfg0.N, t.val < 16 → win0_0.index t = ![0, t.val] ∧ win0_1.index t = ![0, t.val] :=
  (by decide +kernel : ∀ t : Fin grid0.N, t.val < 16 → win0_0.index t = ![0, t.val] ∧ win0_1.index t = ![0, t.val])

/-- The small operands are one block each. -/
theorem idxS : ∀ t : Fin cfg0.N, win0_2.index t = ![0, 0] ∧ win0_3.index t = ![0, 0] ∧ win0_4.index t = ![0, 0] ∧ win0_5.index t = ![0, 0] :=
  (by decide +kernel : ∀ t : Fin grid0.N, win0_2.index t = ![0, 0] ∧ win0_3.index t = ![0, 0] ∧ win0_4.index t = ![0, 0] ∧ win0_5.index t = ![0, 0])

/-- Row `t * 65536 + q` of the long arrays. -/
abbrev row (t : ℕ) (h : t < 16) (q : Fin 65536) : Fin 1048576 := ⟨t * 65536 + q.val, by omega⟩

/-- The arguments at a device: the input texture, -/
abbrev argX (c : Dev nD) : FVec Ideal S1048576x16 .f32 := m ((c : Thread nD τ).loc main_arg0)
/-- the barycentric coefficients, -/
abbrev argC (c : Dev nD) : FVec Ideal S1048576x4 .f32 := m ((c : Thread nD τ).loc main_arg1)
/-- the weights, -/
abbrev argW (c : Dev nD) : FVec Ideal S16x16x4 .f32 := m ((c : Thread nD τ).loc main_arg3)
/-- the biases, -/
abbrev argB (c : Dev nD) : FVec Ideal S1x16 .f32 := m ((c : Thread nD τ).loc main_arg4)
/-- the normalisation's scale, -/
abbrev argG (c : Dev nD) : FVec Ideal S16 .f32 := m ((c : Thread nD τ).loc main_arg5)
/-- and its shift. -/
abbrev argH (c : Dev nD) : FVec Ideal S16 .f32 := m ((c : Thread nD τ).loc main_arg6)

/-- The blocks at a point: of the input, -/
abbrev bX (c : Dev nD) (t : Fin cfg0.N) : FVec Ideal S16x65536 .f32 := iblk m c 0 t
/-- the coefficients, -/
abbrev bC (c : Dev nD) (t : Fin cfg0.N) : FVec Ideal S4x65536 .f32 := iblk m c 1 t
/-- the weights, -/
abbrev bW (c : Dev nD) (t : Fin cfg0.N) : FVec Ideal S16x64 .f32 := iblk m c 2 t
/-- the biases, -/
abbrev bB (c : Dev nD) (t : Fin cfg0.N) : FVec Ideal S16x128 .f32 := iblk m c 3 t
/-- the scale, -/
abbrev bG (c : Dev nD) (t : Fin cfg0.N) : FVec Ideal S16x128 .f32 := iblk m c 4 t
/-- and the shift. -/
abbrev bH (c : Dev nD) (t : Fin cfg0.N) : FVec Ideal S16x128 .f32 := iblk m c 5 t

/-- The input as the region finds it. -/
theorem V_v0 (c : Dev nD) : V m c main_v0 = transpose S16x1048576 [1, 0] (argX m c) transposes_S1048576x16_S16x1048576_1_0 := by
  show StableHlo.after hostOps0 (fun b => m (c, b)) (Proc.devRef .tc main_v0) = _
  entry_read
  rfl

/-- The coefficients as the region finds them. -/
theorem V_v1 (c : Dev nD) : V m c main_v1 = transpose S4x1048576 [1, 0] (argC m c) transposes_S1048576x4_S4x1048576_1_0 := by
  show StableHlo.after hostOps0 (fun b => m (c, b)) (Proc.devRef .tc main_v1) = _
  entry_read
  rfl

/-- The weights as the region finds them. -/
theorem V_v3 (c : Dev nD) : V m c main_v3 = shapeCast S16x64 (transpose S16x4x16 [0, 2, 1] (argW m c) transposes_S16x16x4_S16x4x16_0_2_1) shapeCasts_S16x4x16_S16x64 := by
  show StableHlo.after hostOps0 (fun b => m (c, b)) (Proc.devRef .tc main_v3) = _
  entry_read
  rfl

/-- The biases as the region finds them: a value per row, repeated along it. -/
theorem V_v7 (c : Dev nD) : V m c main_v7 = shapeCast S16x128 (broadcastInDim S1x16x128x1 ![0, 1, 2, 3] bcast_S1x16x1x1_S1x16x128x1_0_1_2_3 (shapeCast S1x16x1x1 (shapeCast S16x1 (argB m c) shapeCasts_S1x16_S16x1) shapeCasts_S16x1_S1x16x1x1)) shapeCasts_S1x16x128x1_S16x128 := by
  show StableHlo.after hostOps0 (fun b => m (c, b)) (Proc.devRef .tc main_v7) = _
  entry_read
  rfl

/-- The scale as the region finds it. -/
theorem V_v11 (c : Dev nD) : V m c main_v11 = shapeCast S16x128 (broadcastInDim S1x16x128x1 ![0, 1, 2, 3] bcast_S1x16x1x1_S1x16x128x1_0_1_2_3 (shapeCast S1x16x1x1 (shapeCast S16x1 (argG m c) shapeCasts_S16_S16x1) shapeCasts_S16x1_S1x16x1x1)) shapeCasts_S1x16x128x1_S16x128 := by
  show StableHlo.after hostOps0 (fun b => m (c, b)) (Proc.devRef .tc main_v11) = _
  entry_read
  rfl

/-- The shift as the region finds it. -/
theorem V_v15 (c : Dev nD) : V m c main_v15 = shapeCast S16x128 (broadcastInDim S1x16x128x1 ![0, 1, 2, 3] bcast_S1x16x1x1_S1x16x128x1_0_1_2_3 (shapeCast S1x16x1x1 (shapeCast S16x1 (argH m c) shapeCasts_S16_S16x1) shapeCasts_S16x1_S1x16x1x1)) shapeCasts_S1x16x128x1_S16x128 := by
  show StableHlo.after hostOps0 (fun b => m (c, b)) (Proc.devRef .tc main_v15) = _
  entry_read
  rfl

/-- The block of inputs at point `t` of the first half: rows of the input, transposed. -/
theorem blk0 (c : Dev nD) (t : Fin cfg0.N) (ht : t.val < 16) (i : Fin 16) (q : Fin 65536) :
    bX m c t (ix2 i q) = argX m c (ix2 (row t.val ht q) i) := by
  have h := (idx t ht).1
  show V m c main_v0 (((cfg0.win 0).blk t).view.emb (ix2 i q)) = _
  rw [V_v0]
  pointwise
  blk_ext [h]

/-- The block of coefficients at point `t` of the first half. -/
theorem blk1 (c : Dev nD) (t : Fin cfg0.N) (ht : t.val < 16) (b : Fin 4) (q : Fin 65536) :
    bC m c t (ix2 b q) = argC m c (ix2 (row t.val ht q) b) := by
  have h := (idx t ht).2
  show V m c main_v1 (((cfg0.win 1).blk t).view.emb (ix2 b q)) = _
  rw [V_v1]
  pointwise
  blk_ext [h]

/-- The weights' block: entry `k` of a row is the weight of input `k % 16` under coefficient `k / 16`. -/
theorem blk2 (c : Dev nD) (t : Fin cfg0.N) (o : Fin 16) (k : Fin 64) :
    bW m c t (ix2 o k) = argW m c (ix3 o ⟨k.val % 16, by omega⟩ ⟨k.val / 16, by omega⟩) := by
  have h := (idxS t).1
  have e : ((cfg0.win 2).blk t).view.emb (ix2 o k) = ix2 o k := by blk_ext [h]
  show V m c main_v3 (((cfg0.win 2).blk t).view.emb (ix2 o k)) = _
  rw [V_v3, e]
  pointwise

/-- The biases' block. -/
theorem blk3 (c : Dev nD) (t : Fin cfg0.N) (o : Fin 16) (l : Fin 128) : bB m c t (ix2 o l) = argB m c (ix2 0 o) := by
  have h := (idxS t).2.1
  have e : ((cfg0.win 3).blk t).view.emb (ix2 o l) = ix2 o l := by blk_ext [h]
  show V m c main_v7 (((cfg0.win 3).blk t).view.emb (ix2 o l)) = _
  rw [V_v7, e]
  pointwise

/-- The scale's block. -/
theorem blk4 (c : Dev nD) (t : Fin cfg0.N) (o : Fin 16) (l : Fin 128) : bG m c t (ix2 o l) = argG m c (ix1 o) := by
  have h := (idxS t).2.2.1
  have e : ((cfg0.win 4).blk t).view.emb (ix2 o l) = ix2 o l := by blk_ext [h]
  show V m c main_v11 (((cfg0.win 4).blk t).view.emb (ix2 o l)) = _
  rw [V_v11, e]
  pointwise

/-- The shift's block. -/
theorem blk5 (c : Dev nD) (t : Fin cfg0.N) (o : Fin 16) (l : Fin 128) : bH m c t (ix2 o l) = argH m c (ix1 o) := by
  have h := (idxS t).2.2.2
  have e : ((cfg0.win 5).blk t).view.emb (ix2 o l) = ix2 o l := by blk_ext [h]
  show V m c main_v15 (((cfg0.win 5).blk t).view.emb (ix2 o l)) = _
  rw [V_v15, e]
  pointwise

end Cert.KernelIdeal.Conv

end
-- ==== Proof.Pay.lean ====
module

public import proofs.«01_k».proof.Proof.Blocks
public import proofs.«01_k».proof.Proof.Formula
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic

variable (m : (ℓ : Loc nD τ sig) → Buf (Elt Ideal) ℓ)

/-! ## The body's arithmetic, entry by entry -/

/-- The coefficient row used by entry `k` of the stacked products. -/
def pick (c0 c1 c2 c3 : FVec Ideal S1x65536 .f32) (k : Fin 64) : FVec Ideal S1x65536 .f32 :=
  if k.val < 16 then c0 else if k.val < 32 then c1 else if k.val < 48 then c2 else c3

/-- An entry of the convolution: the weights' row against the stacked products, the bias added, rectified. -/
theorem pay8_ap (x : FVec Ideal S16x65536 .f32) (c0 c1 c2 c3 : FVec Ideal S1x65536 .f32) (w : FVec Ideal S16x64 .f32) (bb : FVec Ideal S16x1 .f32) (o : Fin 16) (q : Fin 65536) :
    k0_pay8 (F := Ideal) x c0 c1 c2 c3 w bb (ix2 o q)
      = max ((∑ k : Fin 64, w (ix2 o k) * (x (ix2 ⟨k.val % 16, by omega⟩ q) * pick c0 c1 c2 c3 k (ix2 0 q))) + bb (ix2 o 0)) (0 : EReal) := by
  pointwise [k0_pay8]
  refine congrArg (fun s => max (s + bb (ix2 o 0)) (0 : EReal)) (Finset.sum_congr rfl fun k _ => congrArg (fun s => w (ix2 o k) * s) ?_)
  have hk := k.isLt
  unfold pick
  by_cases h0 : k.val < 16
  · have e : k.val % 16 = k.val := by omega
    simp only [h0, dif_pos, if_true, e]
  by_cases h1 : k.val < 32
  · have e : k.val % 16 = k.val - 16 := by omega
    have h1' : k.val - 16 < 16 := by omega
    simp only [h0, h1, h1', dif_pos, if_true, if_false, dif_neg, not_false_eq_true, e]
  by_cases h2 : k.val < 48
  · have e : k.val % 16 = k.val - 16 - 16 := by omega
    have h1' : ¬ k.val - 16 < 16 := by omega
    have h2' : k.val - 16 - 16 < 16 := by omega
    simp only [h0, h1, h1', h2, h2', dif_pos, if_true, if_false, dif_neg, not_false_eq_true, e]
  · have e : k.val % 16 = k.val - 16 - 16 - 16 := by omega
    have h1' : ¬ k.val - 16 < 16 := by omega
    have h2' : ¬ k.val - 16 - 16 < 16 := by omega
    simp only [h0, h1, h1', h2, h2', if_true, if_false, dif_neg, not_false_eq_true, e]

/-- The stored block holds the same values: on the ideal numbers the narrowing is the identity. -/
theorem pay9_ap (x : FVec Ideal S16x65536 .f32) (c0 c1 c2 c3 : FVec Ideal S1x65536 .f32) (w : FVec Ideal S16x64 .f32) (bb : FVec Ideal S16x1 .f32) (o : Fin 16) (q : Fin 65536) :
    k0_pay9 (F := Ideal) x c0 c1 c2 c3 w bb (ix2 o q) = k0_pay8 (F := Ideal) x c0 c1 c2 c3 w bb (ix2 o q) := by
  pointwise [k0_pay9]

/-- The row sums. -/
theorem pay10_ap (x : FVec Ideal S16x65536 .f32) (c0 c1 c2 c3 : FVec Ideal S1x65536 .f32) (w : FVec Ideal S16x64 .f32) (bb : FVec Ideal S16x1 .f32) (o : Fin 16) :
    k0_pay10 (F := Ideal) x c0 c1 c2 c3 w bb (ix2 o 0) = ∑ q : Fin 65536, (k0_pay8 (F := Ideal) x c0 c1 c2 c3 w bb (ix2 o q) : EReal) := by
  pointwise [k0_pay10]

/-- The row sums of squares. -/
theorem pay11_ap (x : FVec Ideal S16x65536 .f32) (c0 c1 c2 c3 : FVec Ideal S1x65536 .f32) (w : FVec Ideal S16x64 .f32) (bb : FVec Ideal S16x1 .f32) (o : Fin 16) :
    k0_pay11 (F := Ideal) x c0 c1 c2 c3 w bb (ix2 o 0)
      = ∑ q : Fin 65536, (k0_pay8 (F := Ideal) x c0 c1 c2 c3 w bb (ix2 o q) : EReal) * k0_pay8 (F := Ideal) x c0 c1 c2 c3 w bb (ix2 o q) := by
  pointwise [k0_pay11]

/-- The statistics start at zero. -/
theorem pay1_ap (o : Fin 16) (l : Fin 128) : k0_pay1 (F := Ideal) (ix2 o l) = (0 : EReal) := by
  pointwise [k0_pay1]

/-- Column 0 of the updated statistics gains the first addend, -/
theorem pay2_ap0 (a b : FVec Ideal S16x1 .f32) (d : FVec Ideal S16x2 .f32) (o : Fin 16) :
    k0_pay2 (F := Ideal) a b d (ix2 o 0) = (d (ix2 o 0) : EReal) + a (ix2 o 0) := by
  pointwise [k0_pay2]

/-- column 1 the second. -/
theorem pay2_ap1 (a b : FVec Ideal S16x1 .f32) (d : FVec Ideal S16x2 .f32) (o : Fin 16) :
    k0_pay2 (F := Ideal) a b d (ix2 o 1) = (d (ix2 o 1) : EReal) + b (ix2 o 0) := by
  pointwise [k0_pay2]

/-- The factor applied to a result, of the two sums and the normalisation's scale. -/
def scaleOf (s1 s2 g : EReal) : EReal :=
  g * Ideal.rsqrt (s2 * Ideal.ofBits .f32 0x35800000#32 - s1 * Ideal.ofBits .f32 0x35800000#32 * (s1 * Ideal.ofBits .f32 0x35800000#32) + Ideal.ofBits .f32 0x3A83126F#32)

/-- The scale. -/
theorem pay5_ap (a b g : FVec Ideal S16x1 .f32) (o : Fin 16) :
    k0_pay5 (F := Ideal) a b g (ix2 o 0) = scaleOf (a (ix2 o 0)) (b (ix2 o 0)) (g (ix2 o 0)) := by
  pointwise [k0_pay5, k0_pay4, k0_pay3, scaleOf]

/-- The shift. -/
theorem pay6_ap (a b g h : FVec Ideal S16x1 .f32) (o : Fin 16) :
    k0_pay6 (F := Ideal) a b g h (ix2 o 0)
      = (h (ix2 o 0) : EReal) - a (ix2 o 0) * Ideal.ofBits .f32 0x35800000#32 * scaleOf (a (ix2 o 0)) (b (ix2 o 0)) (g (ix2 o 0)) := by
  pointwise [k0_pay6, k0_pay4, k0_pay3, scaleOf]

/-- A result: the stored value scaled and shifted. -/
theorem pay7_ap (y : FVec Ideal S16x65536 .bf16) (g h : FVec Ideal S16x1 .f32) (o : Fin 16) (q : Fin 65536) :
    k0_pay7 (F := Ideal) y g h (ix2 o q) = (y (ix2 o q) : EReal) * g (ix2 o 0) + h (ix2 o 0) := by
  pointwise [k0_pay7]

end Cert.KernelIdeal.Conv

end
-- ==== Proof.Stats.lean ====
module

public import proofs.«01_k».proof.Proof.Pay
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic

variable (m : (ℓ : Loc nD τ sig) → Buf (Elt Ideal) ℓ)

open Idealize.ShloMosaic.VecWindow Cert.Formula

/-! ## The statistics, entry by entry -/

/-- Inside the window put, the payload. -/
theorem put_in {s : Shape} {α : Type} (x : s.Idx → α) (off size : Fin s.rank → ℕ) (w : ((a : Fin s.rank) → Fin (size a)) → α) (y : s.Idx) (z : (a : Fin s.rank) → Fin (size a))
    (h : ∀ a, (y a).val = off a + (z a).val) : put x off size w y = w z := by
  have hm : ∀ a, off a ≤ (y a).val ∧ (y a).val < off a + size a := fun a => by
    have := h a
    have := (z a).isLt
    omega
  refine (dif_pos hm).trans (congrArg w (funext fun a => Fin.ext ?_))
  show (y a).val - off a = (z a).val
  have := h a
  omega

/-- Outside the window put, the old contents. -/
theorem put_out {s : Shape} {α : Type} (x : s.Idx → α) (off size : Fin s.rank → ℕ) (w : ((a : Fin s.rank) → Fin (size a)) → α) (y : s.Idx) (a : Fin s.rank)
    (h : ¬ (off a ≤ (y a).val ∧ (y a).val < off a + size a)) : put x off size w y = x y :=
  dif_neg fun hm => h (hm a)

/-- A row of the coefficients' block. -/
theorem rowC (x : FVec Ideal S4x65536 .f32) (b : ℕ) (hb : b < 4) (inb : ∀ a, (![b, 0] : Fin 2 → ℕ) a + S1x65536.size a ≤ S4x65536.size a) (q : Fin 65536) :
    window x ![b, 0] S1x65536.size inb (ix2 0 q) = x (ix2 ⟨b, hb⟩ q) :=
  congrArg x (funext fun a => Fin.ext (by
    match a with
    | ⟨0, _⟩ => exact (by show b + 1 * 0 = b; omega)
    | ⟨1, _⟩ => exact (by show 0 + 1 * q.val = q.val; omega)))

/-- Column 0 of a buffer of statistics, -/
theorem col0_ap (d : FVec Ideal S16x128 .f32) (o : Fin 16) : col0 (F := Ideal) d (ix2 o 0) = d (ix2 o 0) :=
  congrArg d (funext fun a => Fin.ext (by
    match a with
    | ⟨0, _⟩ => exact (by show 0 + 1 * o.val = o.val; omega)
    | ⟨1, _⟩ => rfl))

/-- column 1, -/
theorem col1_ap (d : FVec Ideal S16x128 .f32) (o : Fin 16) : col1 (F := Ideal) d (ix2 o 0) = d (ix2 o 1) :=
  congrArg d (funext fun a => Fin.ext (by
    match a with
    | ⟨0, _⟩ => exact (by show 0 + 1 * o.val = o.val; omega)
    | ⟨1, _⟩ => rfl))

/-- column 2, -/
theorem col2_ap (d : FVec Ideal S16x128 .f32) (o : Fin 16) : col2 (F := Ideal) d (ix2 o 0) = d (ix2 o 2) :=
  congrArg d (funext fun a => Fin.ext (by
    match a with
    | ⟨0, _⟩ => exact (by show 0 + 1 * o.val = o.val; omega)
    | ⟨1, _⟩ => rfl))

/-- and column 3. -/
theorem col3_ap (d : FVec Ideal S16x128 .f32) (o : Fin 16) : col3 (F := Ideal) d (ix2 o 0) = d (ix2 o 3) :=
  congrArg d (funext fun a => Fin.ext (by
    match a with
    | ⟨0, _⟩ => exact (by show 0 + 1 * o.val = o.val; omega)
    | ⟨1, _⟩ => rfl))

/-- The first two columns. -/
theorem cols_ap (d : FVec Ideal S16x128 .f32) (o : Fin 16) (l : Fin 2) :
    window d ![0, 0] S16x2.size inb_S16x128_S16x2_0_0 (ix2 o l) = d (ix2 o ⟨l.val, by omega⟩) :=
  congrArg d (funext fun a => Fin.ext (by
    match a with
    | ⟨0, _⟩ => exact (by show 0 + 1 * o.val = o.val; omega)
    | ⟨1, _⟩ => exact (by show 0 + 1 * l.val = l.val; omega)))

/-- Of the updated statistics, column 0 is the old one plus the row sums, -/
theorem accum_ap0 (x0 : FVec Ideal S16x65536 .f32) (x1 : FVec Ideal S4x65536 .f32) (x2 : FVec Ideal S16x64 .f32) (x3 : FVec Ideal S16x128 .f32) (d : FVec Ideal S16x128 .f32) (o : Fin 16) :
    accum (F := Ideal) x0 x1 x2 x3 d (ix2 o 0) = (d (ix2 o 0) : EReal) + ∑ q : Fin 65536, (yOf (F := Ideal) x0 x1 x2 x3 (ix2 o q) : EReal) := by
  unfold accum
  rw [put_in (s := S16x128) d ![0, 0] S16x2.size _ (ix2 o 0) (ix2 (n1 := 2) o 0) (fun a => by
    match a with
    | ⟨0, _⟩ => exact (Nat.zero_add _).symm
    | ⟨1, _⟩ => rfl)]
  refine (pay2_ap0 _ _ _ _).trans ?_
  exact congrArg₂ (· + ·) (cols_ap d o 0) (pay10_ap ..)

/-- column 1 the old one plus the row sums of squares. -/
theorem accum_ap1 (x0 : FVec Ideal S16x65536 .f32) (x1 : FVec Ideal S4x65536 .f32) (x2 : FVec Ideal S16x64 .f32) (x3 : FVec Ideal S16x128 .f32) (d : FVec Ideal S16x128 .f32) (o : Fin 16) :
    accum (F := Ideal) x0 x1 x2 x3 d (ix2 o 1)
      = (d (ix2 o 1) : EReal) + ∑ q : Fin 65536, (yOf (F := Ideal) x0 x1 x2 x3 (ix2 o q) : EReal) * yOf (F := Ideal) x0 x1 x2 x3 (ix2 o q) := by
  unfold accum
  rw [put_in (s := S16x128) d ![0, 0] S16x2.size _ (ix2 o 1) (ix2 (n1 := 2) o 1) (fun a => by
    match a with
    | ⟨0, _⟩ => exact (Nat.zero_add _).symm
    | ⟨1, _⟩ => rfl)]
  refine (pay2_ap1 _ _ _ _).trans ?_
  exact congrArg₂ (· + ·) (cols_ap d o 1) (pay11_ap ..)

/-- Of the completed statistics, column 2 is the scale, -/
theorem finish_ap2 (x4 x5 d : FVec Ideal S16x128 .f32) (o : Fin 16) :
    finish (F := Ideal) x4 x5 d (ix2 o 2) = scaleOf (d (ix2 o 0)) (d (ix2 o 1)) (x4 (ix2 o 0)) := by
  unfold finish
  rw [put_out (s := S16x128) _ ![0, 3] S16x1.size _ (ix2 o 2) (1 : Fin 2) (by show ¬ (3 ≤ 2 ∧ 2 < 3 + 1); decide),
    put_in (s := S16x128) d ![0, 2] S16x1.size _ (ix2 o 2) (ix2 (n1 := 1) o 0) (fun a => by
    match a with
    | ⟨0, _⟩ => exact (Nat.zero_add _).symm
    | ⟨1, _⟩ => rfl)]
  refine (pay5_ap _ _ _ _).trans ?_
  rw [col0_ap, col1_ap, col0_ap]

/-- and column 3 the shift. -/
theorem finish_ap3 (x4 x5 d : FVec Ideal S16x128 .f32) (o : Fin 16) :
    finish (F := Ideal) x4 x5 d (ix2 o 3)
      = (x5 (ix2 o 0) : EReal) - d (ix2 o 0) * Ideal.ofBits .f32 0x35800000#32 * scaleOf (d (ix2 o 0)) (d (ix2 o 1)) (x4 (ix2 o 0)) := by
  unfold finish
  rw [put_in (s := S16x128) _ ![0, 3] S16x1.size _ (ix2 o 3) (ix2 (n1 := 1) o 0) (fun a => by
    match a with
    | ⟨0, _⟩ => exact (Nat.zero_add _).symm
    | ⟨1, _⟩ => rfl)]
  refine (pay6_ap _ _ _ _ _).trans ?_
  rw [col0_ap, col1_ap, col0_ap, col0_ap]

variable (m : (ℓ : Loc nD τ sig) → Buf (Elt Ideal) ℓ)

/-- The rectified convolution of the kernel's arguments. -/
def yK (c : Dev nD) (n : Fin 1048576) (o : Fin 16) : EReal :=
  y (fun n i => argX m c (ix2 n i)) (fun n b => argC m c (ix2 n b)) (fun o i b => argW m c (ix3 o i b)) (fun o => argB m c (ix2 0 o)) n o

/-- What a point of the first half computes is the rectified convolution at its rows. -/
theorem yOf_ap (c : Dev nD) (t : Fin cfg0.N) (ht : t.val < 16) (o : Fin 16) (q : Fin 65536) :
    yOf (F := Ideal) (iblk m c 0 t) (iblk m c 1 t) (iblk m c 2 t) (iblk m c 3 t) (ix2 o q) = yK m c (row t.val ht q) o := by
  refine (pay8_ap _ _ _ _ _ _ _ o q).trans ?_
  unfold yK y
  rw [col0_ap]
  refine congrArg₂ max (congrArg₂ (· + ·) (sum64 _ _ fun k => ?_) (blk3 m c t o 0)) rfl
  have hk := k.isLt
  refine (congrArg₂ (· * ·) (blk2 m c t o k) (congrArg₂ (· * ·) (blk0 m c t ht _ q) (?_ : _ = argC m c (ix2 (row t.val ht q) ⟨k.val / 16, by omega⟩)))).trans ?_
  · unfold pick
    by_cases h0 : k.val < 16
    · have e : (⟨0, by decide⟩ : Fin 4) = ⟨k.val / 16, by omega⟩ := Fin.ext (by show 0 = k.val / 16; omega)
      rw [if_pos h0, ← e]
      exact (rowC _ 0 (by decide) _ q).trans (blk1 m c t ht _ q)
    by_cases h1 : k.val < 32
    · have e : (⟨1, by decide⟩ : Fin 4) = ⟨k.val / 16, by omega⟩ := Fin.ext (by show 1 = k.val / 16; omega)
      rw [if_neg h0, if_pos h1, ← e]
      exact (rowC _ 1 (by decide) _ q).trans (blk1 m c t ht _ q)
    by_cases h2 : k.val < 48
    · have e : (⟨2, by decide⟩ : Fin 4) = ⟨k.val / 16, by omega⟩ := Fin.ext (by show 2 = k.val / 16; omega)
      rw [if_neg h0, if_neg h1, if_pos h2, ← e]
      exact (rowC _ 2 (by decide) _ q).trans (blk1 m c t ht _ q)
    · have e : (⟨3, by decide⟩ : Fin 4) = ⟨k.val / 16, by omega⟩ := Fin.ext (by show 3 = k.val / 16; omega)
      rw [if_neg h0, if_neg h1, if_neg h2, ← e]
      exact (rowC _ 3 (by decide) _ q).trans (blk1 m c t ht _ q)
  · show (_ : EReal) * (_ * _) = (_ * _) * _
    rw [mul_comm, mul_comm (argX m c _ : EReal)]

/-- The stored block at a point of the first half. -/
theorem yBlk_ap (c : Dev nD) (t : Fin cfg0.N) (ht : t.val < 16) (o : Fin 16) (q : Fin 65536) :
    yBlk m c t (ix2 o q) = yK m c (row t.val ht q) o :=
  (pay9_ap _ _ _ _ _ _ _ o q).trans (yOf_ap m c t ht o q)

/-- The sum of the values over all rows, -/
def s1K (c : Dev nD) (o : Fin 16) : EReal := ∑ n, yK m c n o
/-- and of their squares. -/
def s2K (c : Dev nD) (o : Fin 16) : EReal := ∑ n, yK m c n o * yK m c n o

/-- After `k` points the sums are those over the first `k` blocks of rows. -/
theorem sums_ap (c : Dev nD) (o : Fin 16) (k : ℕ) (hk : k ≤ 16) :
    (sums m c k (ix2 o 0) : EReal) = ∑ t : Fin k, ∑ q : Fin 65536, yK m c (row t.val (by omega) q) o
    ∧ (sums m c k (ix2 o 1) : EReal) = ∑ t : Fin k, ∑ q : Fin 65536, yK m c (row t.val (by omega) q) o * yK m c (row t.val (by omega) q) o := by
  induction k with
  | zero => exact ⟨(pay1_ap o 0).trans (Finset.sum_empty).symm, (pay1_ap o 1).trans (Finset.sum_empty).symm⟩
  | succ k ih =>
    obtain ⟨i0, i1⟩ := ih (by omega)
    have e := sums_succ m c (pt k (by omega))
    constructor
    · refine ((congrFun e _).trans (accum_ap0 _ _ _ _ _ o)).trans (Eq.trans ?_ (Fin.sum_univ_castSucc (n := k) _).symm)
      refine congrArg₂ (· + ·) i0 (Finset.sum_congr rfl fun q _ => ?_)
      exact yOf_ap m c (pt k (by omega)) (by show k < 16; omega) o q
    · refine ((congrFun e _).trans (accum_ap1 _ _ _ _ _ o)).trans (Eq.trans ?_ (Fin.sum_univ_castSucc (n := k) _).symm)
      refine congrArg₂ (· + ·) i1 (Finset.sum_congr rfl fun q _ => ?_)
      exact congrArg (fun v : EReal => v * v) (yOf_ap m c (pt k (by omega)) (by show k < 16; omega) o q)

/-- After the first half they are the sums over all rows. -/
theorem sums_all (c : Dev nD) (o : Fin 16) : (sums m c 16 (ix2 o 0) : EReal) = s1K m c o ∧ (sums m c 16 (ix2 o 1) : EReal) = s2K m c o :=
  ⟨(sums_ap m c o 16 le_rfl).1.trans (sumBlocks fun n => yK m c n o), (sums_ap m c o 16 le_rfl).2.trans (sumBlocks fun n => yK m c n o * yK m c n o)⟩

/-- The scale in the kernel. -/
def scaleK (c : Dev nD) (o : Fin 16) : EReal := scaleOf (s1K m c o) (s2K m c o) (argG m c (ix1 o))

/-- The completed statistics: the scale, -/
theorem stats_ap2 (c : Dev nD) (o : Fin 16) : (stats m c 16 (ix2 o 2) : EReal) = scaleK m c o := by
  unfold stats
  rw [if_neg (by decide)]
  refine (finish_ap2 _ _ _ o).trans ?_
  rw [(sums_all m c o).1, (sums_all m c o).2]
  exact congrArg (scaleOf (s1K m c o) (s2K m c o)) (blk4 m c _ o 0)

/-- and the shift. -/
theorem stats_ap3 (c : Dev nD) (o : Fin 16) :
    (stats m c 16 (ix2 o 3) : EReal) = argH m c (ix1 o) - s1K m c o * Ideal.ofBits .f32 0x35800000#32 * scaleK m c o := by
  unfold stats
  rw [if_neg (by decide)]
  refine (finish_ap3 _ _ _ o).trans ?_
  rw [(sums_all m c o).1, (sums_all m c o).2]
  exact congrArg₂ (fun a g => (a : EReal) - s1K m c o * Ideal.ofBits .f32 0x35800000#32 * scaleOf (s1K m c o) (s2K m c o) g) (blk5 m c _ o 0) (blk4 m c _ o 0)

/-- The result of row `n` at channel `o` in the kernel. -/
def outK (c : Dev nD) (n : Fin 1048576) (o : Fin 16) : EReal :=
  yK m c n o * scaleK m c o + (argH m c (ix1 o) - s1K m c o * Ideal.ofBits .f32 0x35800000#32 * scaleK m c o)

/-- What a point of the second half writes. -/
theorem oBlk_ap (c : Dev nD) (t : Fin cfg0.N) (ht : 16 ≤ t.val) (o : Fin 16) (q : Fin 65536) :
    oBlk m c t (ix2 o q) = outK m c (row (t.val - 16) (by have := lt32 t; omega) q) o := by
  have h32 := lt32 t
  unfold oBlk outK
  refine (pay7_ap _ _ _ o q).trans ?_
  rw [col2_ap, col3_ap]
  exact congrArg₂ (· + ·) (congrArg₂ (· * ·) (yBlk_ap m c ⟨t.val - 16, _⟩ (by show t.val - 16 < 16; omega) o q) (stats_ap2 m c o)) (stats_ap3 m c o)

end Cert.KernelIdeal.Conv

end
-- ==== Proof.Output.lean ====
module

public import proofs.«01_k».proof.Proof.Stats
public import proofs.«01_k».proof.Proof.Launch
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic

variable (m : (ℓ : Loc nD τ sig) → Buf (Elt Ideal) ℓ)

open Idealize.SL.Sem
open Idealize.ShloMosaic.Pipeline (Dat)

variable (m : (ℓ : Loc nD τ sig) → Buf (Elt Ideal) ℓ) (ρ : Dev nD → PrngReg)

/-! ## The kernel's result -/

/-- Where the output's block sits at each point of the second half. -/
theorem idx6 : ∀ t : Fin cfg0.N, 16 ≤ t.val → win0_6.index t = ![0, t.val - 16] :=
  (by decide +kernel : ∀ t : Fin grid0.N, 16 ≤ t.val → win0_6.index t = ![0, t.val - 16])

/-- The array the region leaves: the results, transposed. -/
def outT (c : Dev nD) : FVec Ideal S16x1048576 .f32 := fun j => outK m c (j 1) (j 0)

/-- The result: the results row by row. -/
def outV (c : Dev nD) : FVec Ideal S1048576x16 .f32 := fun j => outK m c (j 0) (j 1)

/-- What a point of the second half writes is the array's entry at the block's place. -/
theorem block (c : Dev nD) (t : Fin cfg0.N) (ht : 16 ≤ t.val) (y : S16x65536.Idx) : oBlk m c t y = outT m c (((cfg0.win 6).blk t).view.emb y) := by
  have h := idx6 t ht
  have h32 := lt32 t
  idx_vars y
  rw [oBlk_ap m c t ht]
  unfold outT
  refine congrArg₂ (outK m c) (Fin.ext ?_) (Fin.ext ?_)
  · blk_simp [h]
  · blk_simp [h]

/-- The output's blocks fill its array with the results. -/
theorem final (c : Dev nD) : (dats m 0 c).arrAt 6 (cfgs 0).N = outT m c := by
  refine (dats m 0 c).arrAt_eq_of_covers 6 _ (by decide +kernel) fun t hf y => ?_
  have ht := (flush6 t).mp hf
  blk_simp
  rw [after0_6]
  exact block m c t ht y

/-- What the region leaves goes out transposed. -/
theorem result (c : Dev nD) : Pipeline.afterTail₀ cfgs (dats m) 0 (V0 m) [hostOps1] c main_v17 = outV m c := by
  unfold Pipeline.afterTail₀
  show StableHlo.after hostOps1 _ (Proc.devRef .tc main_v17) = _
  entry_read
  rw [show Pipeline.withArrays (cfgs 0).spec c (V0 m c) (fun w => (dats m 0 c).arrAt w (cfgs 0).N) (Proc.devRef .tc main_v16) = (dats m 0 c).arrAt 6 (cfgs 0).N from
    Pipeline.withArrays_arr (cfgs 0).spec launch0.win.arr_inj c (V0 m c) (fun w => (dats m 0 c).arrAt w (cfgs 0).N) 6, final]
  funext j
  idx_vars j
  pointwise [outT, outV]

/-- The run: the result is `outV`, the arguments end unchanged. -/
theorem run_value : θ_run defs (onTc (τ := τ) (main (F := Ideal))) ⟨m, fun _ => 0, ρ⟩ (fun r => ∀ c : Dev nD,
      r.2.mem ((c.tc : Thread nD τ).loc main_v17) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).2 main_v17 (Pipeline.mem_restRefs_of main_v17 (by decide) (by decide))).trans (result m c), h.2 c⟩)
    (θ_run_and (run_main m ρ) (unchanged m ρ))

end Cert.KernelIdeal.Conv

end
-- ==== Proof.RefRows.lean ====
module

public import proofs.«01_k».proof.Proof.Gen.ReferenceIdeal.Read
public import proofs.«01_k».proof.Proof.Formula
public import Idealize.ShloMosaic.Lib.Claim
public import Idealize.ShloMosaic.Lib.Pointwise
public import Idealize.ShloMosaic.Lib.Routing.Ops
public import Idealize.ShloMosaic.Lib.Routing.OpsOne
public import Idealize.ShloMosaic.Lib.Routing.OpsSet
public import Idealize.ShloMosaic.Lib.Routing.OpsPair
public import Idealize.ShloMosaic.Lib.ReduceAll
public import Idealize.ShloMosaic.Lib.WordCmp

@[expose] public section

set_option maxRecDepth 16384

noncomputable section

namespace Cert.ReferenceIdeal.Conv

open Cert.ReferenceIdeal Cert.ReferenceIdeal.Gen Cert.ReferenceIdeal.Read
open Idealize.ShloMosaic Idealize.ShloMosaic.TcCoe Idealize.ShloMosaic.Tactic

variable (x0 : FVec Ideal S1048576x16 .f32) (x1 : FVec Ideal S1048576x4 .f32) (x2 : (⟨S1048576, .i32⟩ : BufTy).Contents (Elt Ideal)) (x3 : FVec Ideal S16x16x4 .f32) (x4 : FVec Ideal S1x16 .f32)
  (x5 x6 : FVec Ideal S16 .f32)

/-! ## Adding the rows up by segment -/

/-- The start of update row `k` is its segment word. -/
theorem rows_start (idx : IVec S1048576x1 32) (k : Fin 1048576) (c : Fin 16) :
    scatter_S1048576x16_S1048576x1_S1048576x16_1_0_0_1.start (ix2 k c) idx 0 = (idx (ix2 k 0)).toInt := by
  have e : scatter_S1048576x16_S1048576x1_S1048576x16_1_0_0_1.siIdx (ix2 k c) ⟨0, by decide⟩ = ix2 k 0 := by
    funext a
    match a with
    | ⟨0, _⟩ => rfl
    | ⟨1, _⟩ => rfl
  rw [← e]
  rfl

/-- An update lands where its row's segment word and its own column say. -/
theorem rows_lands (idx : IVec S1048576x1 32) (hid : ∀ k, idx (ix2 k 0) = BitVec.ofNat 32 k.val) (k n : Fin 1048576) (c o : Fin 16) :
    scatter_S1048576x16_S1048576x1_S1048576x16_1_0_0_1.resultIdx? (ix2 k c) idx = some (ix2 n o) ↔ k = n ∧ c = o := by
  have h := Routing.resultIdx?_ix2 scatter_S1048576x16_S1048576x1_S1048576x16_1_0_0_1 (ix2 k c) idx n o
  refine h.trans ?_
  rw [rows_start, hid, StableHlo.Predicate.toInt_ofNat_small _ (by have := k.isLt; omega)]
  have w0 : scatter_S1048576x16_S1048576x1_S1048576x16_1_0_0_1.window (ix2 k c) 0 = 0 := rfl
  have w1 : scatter_S1048576x16_S1048576x1_S1048576x16_1_0_0_1.window (ix2 k c) 1 = c.val := rfl
  have s1 : scatter_S1048576x16_S1048576x1_S1048576x16_1_0_0_1.start (ix2 k c) idx 1 = 0 := rfl
  rw [w0, w1, s1, Fin.ext_iff, Fin.ext_iff]
  omega

/-- With row `k` in segment `k`, the segments are the rows. -/
theorem rows_add (x : FVec Ideal S1048576x16 .f32) (hx : ∀ i, x i = (0 : EReal)) (idx : IVec S1048576x1 32) (hid : ∀ k, idx (ix2 k 0) = BitVec.ofNat 32 k.val) (u : FVec Ideal S1048576x16 .f32)
    (n : Fin 1048576) (o : Fin 16) : Host.scatterAdd scatter_S1048576x16_S1048576x1_S1048576x16_1_0_0_1 x idx u (ix2 n o) = u (ix2 n o) := by
  show (x (ix2 n o) : EReal) + ∑ j ∈ Finset.univ.filter (fun j => scatter_S1048576x16_S1048576x1_S1048576x16_1_0_0_1.resultIdx? j idx = some (ix2 n o)), (u j : EReal) = u (ix2 n o)
  have e : Finset.univ.filter (fun j => scatter_S1048576x16_S1048576x1_S1048576x16_1_0_0_1.resultIdx? j idx = some (ix2 n o)) = {ix2 n o} := by
    ext j
    rw [Finset.mem_filter, Finset.mem_singleton]
    idx_vars j
    rw [rows_lands idx hid]
    constructor
    · rintro ⟨_, rfl, rfl⟩
      rfl
    · intro h
      exact ⟨Finset.mem_univ _, congrFun h 0, congrFun h 1⟩
  rw [e, Finset.sum_singleton, hx, zero_add]

end Cert.ReferenceIdeal.Conv

end
-- ==== Proof.RefIds.lean ====
module

public import proofs.«01_k».proof.Proof.Gen.ReferenceIdeal.Read
public import proofs.«01_k».proof.Proof.Formula
public import Idealize.ShloMosaic.Lib.Claim
public import Idealize.ShloMosaic.Lib.Pointwise
public import Idealize.ShloMosaic.Lib.Routing.Ops
public import Idealize.ShloMosaic.Lib.Routing.OpsOne
public import Idealize.ShloMosaic.Lib.Routing.OpsSet
public import Idealize.ShloMosaic.Lib.Routing.OpsPair
public import Idealize.ShloMosaic.Lib.ReduceAll
public import Idealize.ShloMosaic.Lib.WordCmp

@[expose] public section

set_option maxRecDepth 16384

noncomputable section

namespace Cert.ReferenceIdeal.Conv

open Cert.ReferenceIdeal Cert.ReferenceIdeal.Gen Cert.ReferenceIdeal.Read
open Idealize.ShloMosaic Idealize.ShloMosaic.TcCoe Idealize.ShloMosaic.Tactic

variable (x0 : FVec Ideal S1048576x16 .f32) (x1 : FVec Ideal S1048576x4 .f32) (x2 : (⟨S1048576, .i32⟩ : BufTy).Contents (Elt Ideal)) (x3 : FVec Ideal S16x16x4 .f32) (x4 : FVec Ideal S1x16 .f32)
  (x5 x6 : FVec Ideal S16 .f32)

/-! ## The segment of every row is the row itself, when every texture has one point -/

/-- Summing the first `n + 1` of them gives `n`. -/
theorem sum_range (n : ℕ) : ((List.range (n + 1)).map fun i => if i = 0 then 0 else 1).sum = n := by
  induction n with
  | zero => rfl
  | succ n ih => rw [List.range_succ, List.map_append, List.sum_append, ih]; simp

/-- The sum of `n` ones. -/
theorem sum_ones (n : ℕ) : ((List.range n).map fun _ => 1).sum = n := by
  rw [List.map_const', List.sum_replicate, List.length_range, smul_eq_mul, mul_one]

/-- Exactly one of the numbers below `N` is `n`. -/
theorem count_eq (n N : ℕ) (h : n < N) : Nat.count (fun i => i = n) N = 1 := by
  rw [Nat.count_eq_card_filter_range, Finset.card_eq_one]
  exact ⟨n, by ext i; simp only [Finset.mem_filter, Finset.mem_range, Finset.mem_singleton]; omega⟩

/-- A word below the length is not negative, so it is not moved. -/
theorem wrapped (n : Fin 1048576) (a : BitVec 32) :
    Scalar.select (IntOp.cmpi .slt (BitVec.ofNat 32 n.val) 0#32) a (BitVec.ofNat 32 n.val) = BitVec.ofNat 32 n.val :=
  Routing.wrap_of_lt _ _ (by have := n.isLt; rw [BitVec.toNat_ofNat]; omega)

section
variable (hx2 : ∀ n : Fin 1048576, x2 (ix1 n) = 1#32)
include hx2

/-- The counts moved one place on are all one still. -/
theorem v1_ap (n : Fin 1048576) : val_main_v1 (F := Ideal) x2 (ix1 n) = 1#32 := by
  pointwise [val_main_v1, val_main_call0_v0, val_main_call0_v1]
  split_ifs <;> exact hx2 _

/-- The first one is set to zero. -/
theorem v3_ap (n : Fin 1048576) : val_main_v3 (F := Ideal) x2 (ix1 n) = BitVec.ofNat 32 (if n.val = 0 then 0 else 1) := by
  unfold val_main_v3
  have e : ∀ k : S_.Idx, scatter_S1048576_S1_S__n_0_0_0.resultIdx? k (val_main_v2 (F := Ideal)) = some (ix1 n) ↔ n.val = 0 := fun k => by
    refine (Routing.resultIdx?_ix1 scatter_S1048576_S1_S__n_0_0_0 k (val_main_v2 (F := Ideal)) n).trans ?_
    have w : scatter_S1048576_S1_S__n_0_0_0.window k 0 = 0 := rfl
    have s : scatter_S1048576_S1_S__n_0_0_0.start k (val_main_v2 (F := Ideal)) 0 = (0#32 : BitVec 32).toInt := rfl
    rw [w, s]
    show (0 : Int) + ((0 : ℕ) : Int) = _ ↔ _
    omega
  by_cases h : n.val = 0
  · rw [if_pos h]
    exact Routing.scatter_set_hit _ _ _ _ _ _ (fun _ _ => rfl) ix0 ((e _).mpr h)
  · rw [if_neg h]
    exact (Routing.scatter_set_miss _ _ _ _ _ fun k hk => h ((e k).mp hk)).trans (v1_ap x2 hx2 n)

/-- The running sum: where each texture's points start. -/
theorem v4_ap (n : Fin 1048576) : val_main_v4 (F := Ideal) x2 (ix1 n) = BitVec.ofNat 32 n.val := by
  have h := Routing.cumsum1 (N := 1048576) (Nm1 := 1048575) rfl (val_main_v3 (F := Ideal) x2) (fun i => if i = 0 then 0 else 1) (fun i => v3_ap x2 hx2 i)
    (val_main_call1_call0_v0 (F := Ideal)) rfl reduceWindows_S1048576_S1048576_w1048576s1p1048575_0 h_S_ n
  rw [sum_range] at h
  exact h

/-- None is negative. -/
theorem v11_ap (n : Fin 1048576) : val_main_v11 (F := Ideal) x2 (ix2 n 0) = BitVec.ofNat 32 n.val := by
  pointwise [val_main_v11, val_main_v10, val_main_v9, val_main_v8, val_main_v7, val_main_v6, val_main_c_2, val_main_c_3]
  rw [v4_ap x2 hx2]
  exact wrapped n _

/-- Counting the starts at each position: one everywhere. -/
theorem v13_ap (n : Fin 1048576) : val_main_v13 (F := Ideal) x2 (ix1 n) = BitVec.ofNat 32 1 := by
  have h := Routing.scatter_hist (N := 1048576) scatter_S1048576_S1048576x1_S1048576_n_0_0_1 rfl rfl rfl (val_main_v5 (F := Ideal)) (fun _ => rfl)
    (val_main_v11 (F := Ideal) x2) (val_main_v12 (F := Ideal)) (fun _ => rfl) (fun i => i) (fun i => v11_ap x2 hx2 i) (fun i => by have := i.isLt; omega) n
  rw [count_eq n.val 1048576 n.isLt] at h
  exact h

/-- Their running sum. -/
theorem v14_ap (n : Fin 1048576) : val_main_v14 (F := Ideal) x2 (ix1 n) = BitVec.ofNat 32 (n.val + 1) := by
  have h := Routing.cumsum1 (N := 1048576) (Nm1 := 1048575) rfl (val_main_v13 (F := Ideal) x2) (fun _ => 1) (fun i => v13_ap x2 hx2 i)
    (val_main_call2_call0_v0 (F := Ideal)) rfl reduceWindows_S1048576_S1048576_w1048576s1p1048575_0 h_S_ n
  rw [sum_ones] at h
  exact h

/-- Less one: the position itself. -/
theorem v16_ap (n : Fin 1048576) : val_main_v16 (F := Ideal) x2 (ix1 n) = BitVec.ofNat 32 n.val := by
  pointwise [val_main_v16, val_main_v15, val_main_c_5]
  rw [v14_ap x2 hx2]
  refine BitVec.eq_of_toNat_eq ?_
  have := n.isLt
  show (BitVec.ofNat 32 (n.val + 1) - 1#32).toNat = _
  rw [BitVec.toNat_sub, BitVec.toNat_ofNat, BitVec.toNat_ofNat, BitVec.toNat_ofNat]
  omega

/-- The column of positions looked up. -/
theorem call3_v5_ap (n : Fin 1048576) : val_main_call3_v5 (F := Ideal) x2 (ix2 n 0) = BitVec.ofNat 32 n.val := by
  pointwise [val_main_call3_v5, val_main_call3_v4, val_main_call3_v3, val_main_call3_v2, val_main_call3_v1, val_main_call3_v0, val_main_call3_c, val_main_call3_c_0]
  rw [v16_ap x2 hx2]
  exact wrapped n _

/-- Each is within bounds. -/
theorem call3_v11_ap (n : Fin 1048576) : val_main_call3_v11 (F := Ideal) x2 (ix2 n 0) = 1#1 := by
  pointwise [val_main_call3_v11, val_main_call3_v10, val_main_call3_v9, val_main_call3_v8, val_main_call3_v7, val_main_call3_v6, val_main_call3_c_1, val_main_call3_c_2]
  rw [call3_v5_ap x2 hx2]
  have := n.isLt
  have e : (BitVec.ofNat 32 n.val).toInt = (n.val : Int) := StableHlo.Predicate.toInt_ofNat_small _ (by omega)
  have a : IntOp.cmpi .sge (BitVec.ofNat 32 n.val) 0#32 = 1#1 := by
    show BitVec.ofBool (BitVec.sle 0#32 (BitVec.ofNat 32 n.val)) = 1#1
    rw [BitVec.sle_eq_decide, e, decide_eq_true (by show (0 : Int) ≤ _; omega)]
    rfl
  have b : IntOp.cmpi .sle (BitVec.ofNat 32 n.val) 1048575#32 = 1#1 := by
    show BitVec.ofBool (BitVec.sle (BitVec.ofNat 32 n.val) 1048575#32) = 1#1
    rw [BitVec.sle_eq_decide, e, decide_eq_true (by show (n.val : Int) ≤ 1048575; omega)]
    rfl
  rw [a, b]
  rfl

/-- So each lookup is within bounds. -/
theorem call3_v12_ap (n : Fin 1048576) : val_main_call3_v12 (F := Ideal) x2 (ix1 n) = 1#1 := by
  unfold val_main_call3_v12
  refine Host.reduce_andi_one _ _ _ _ _ rfl fun i => ?_
  idx_vars i
  obtain rfl : i1 = 0 := Subsingleton.elim _ _
  exact call3_v11_ap x2 hx2 i0

/-- The position looked up among the positions. -/
theorem call3_v13_ap (n : Fin 1048576) : val_main_call3_v13 (F := Ideal) x2 (ix1 n) = BitVec.ofNat 32 n.val :=
  Routing.gather_take1 (N := 1048576) gather_S1048576_S1048576x1_S1048576_n_0_n_n_0_1_1 rfl rfl rfl rfl (val_main_v0 (F := Ideal)) (val_main_call3_v5 (F := Ideal) x2) n n
    (call3_v5_ap x2 hx2 n) (by decide)

/-- The segment of a row is the row. -/
theorem v25_ap (n : Fin 1048576) : val_main_v25 (F := Ideal) x2 (ix2 n 0) = BitVec.ofNat 32 n.val := by
  pointwise [val_main_v25, val_main_v17]
  rw [call3_v12_ap x2 hx2, call3_v13_ap x2 hx2]
  rfl

end

end Cert.ReferenceIdeal.Conv

end
-- ==== Proof.RefTail.lean ====
module

public import proofs.«01_k».proof.Proof.Gen.ReferenceIdeal.Read
public import proofs.«01_k».proof.Proof.Formula
public import proofs.«01_k».proof.Proof.RefRows
public import proofs.«01_k».proof.Proof.RefIds
public import proofs.«01_k».proof.Proof.Equation
public import Idealize.ShloMosaic.Lib.Claim
public import Idealize.ShloMosaic.Lib.Pointwise
public import Idealize.ShloMosaic.Lib.Routing.Ops
public import Idealize.ShloMosaic.Lib.Routing.OpsOne
public import Idealize.ShloMosaic.Lib.Routing.OpsSet
public import Idealize.ShloMosaic.Lib.ReduceAll
public import Idealize.ShloMosaic.Lib.WordCmp

@[expose] public section

set_option maxRecDepth 16384

noncomputable section

namespace Cert.ReferenceIdeal.Conv

open Cert.ReferenceIdeal Cert.ReferenceIdeal.Gen Cert.ReferenceIdeal.Read
open Idealize.ShloMosaic Idealize.ShloMosaic.TcCoe Idealize.ShloMosaic.Tactic

variable (x0 : FVec Ideal S1048576x16 .f32) (x1 : FVec Ideal S1048576x4 .f32) (x2 : (⟨S1048576, .i32⟩ : BufTy).Contents (Elt Ideal)) (x3 : FVec Ideal S16x16x4 .f32) (x4 : FVec Ideal S1x16 .f32)
  (x5 x6 : FVec Ideal S16 .f32)

open Cert.Formula

/-! ## The reference's result -/

/-- The product of a row with the weights, at one output channel. -/
theorem v23_ap (n : Fin 1048576) (o : Fin 16) :
    val_main_v23 (F := Ideal) x0 x1 x3 (ix2 n o) = ∑ b : Fin 4, ∑ i : Fin 16, (x1 (ix2 n b) : EReal) * x0 (ix2 n i) * x3 (ix3 o i b) := by
  pointwise [val_main_v18, val_main_v19, val_main_v20, val_main_v21, val_main_v22, val_main_v23]

/-- Rows summed by segment are the rows. -/
theorem v26_ap (hx2 : ∀ n : Fin 1048576, x2 (ix1 n) = 1#32) (n : Fin 1048576) (o : Fin 16) :
    val_main_v26 (F := Ideal) x0 x1 x2 x3 (ix2 n o) = val_main_v23 (F := Ideal) x0 x1 x3 (ix2 n o) :=
  rows_add (val_main_v24 (F := Ideal)) (fun i => by idx_vars i; pointwise [val_main_v24, val_main_cst]) (val_main_v25 (F := Ideal) x2) (v25_ap x2 hx2) (val_main_v23 (F := Ideal) x0 x1 x3) n o

/-- Before the normalisation the reference holds the rectified convolution. -/
theorem v35_ap (hx2 : ∀ n : Fin 1048576, x2 (ix1 n) = 1#32) (n : Fin 1048576) (o : Fin 16) :
    val_main_v35 (F := Ideal) x0 x1 x2 x3 x4 (ix2 n o)
      = y (fun n i => x0 (ix2 n i)) (fun n b => x1 (ix2 n b)) (fun o i b => x3 (ix3 o i b)) (fun o => x4 (ix2 0 o)) n o := by
  pointwise [val_main_c_6, val_main_v27, val_main_v28, val_main_v29, val_main_v30, val_main_v31, val_main_v32, val_main_v33, val_main_v34, val_main_v35, val_main_call4_cst, val_main_call4_v0]
  rw [v26_ap x0 x1 x2 x3 hx2, v23_ap, hx2]
  unfold y
  have e : (FloatOps.sitofp (F := Ideal) .f32 (IntOp.maxsi (1#32) 1#32) : EReal) = ((1 : ℝ) : EReal) := by
    show (((1#32 : BitVec 32).toInt : ℝ) : EReal) = ((1 : ℝ) : EReal)
    norm_num
  rw [e, Ideal.div_coe one_ne_zero]
  norm_num

/-- The reference's result, from the rectified convolutions. -/
theorem v54_ap (n : Fin 1048576) (o : Fin 16) :
    val_main_v54 (F := Ideal) x0 x1 x2 x3 x4 x5 x6 (ix2 n o)
      = refOut (fun n => val_main_v35 (F := Ideal) x0 x1 x2 x3 x4 (ix2 n o)) (x5 (ix1 o)) (x6 (ix1 o)) n := by
  pointwise [val_main_v36, val_main_cst_8, val_main_v37, val_main_v38, val_main_c_9, val_main_cst_7, val_main_call5_cst, val_main_call5_v0, val_main_call5_v1, val_main_call5_cst_0, val_main_call5_v2, val_main_call5_v3, val_main_call5_v4, val_main_call5_v5, val_main_call5_v6, val_main_call5_v7, val_main_call5_cst_1, val_main_call5_v8, val_main_call5_cst_2, val_main_call5_v9, val_main_call5_v10, val_main_call5_v11, val_main_call5_cst_3, val_main_call5_v12, val_main_call5_cst_4, val_main_call5_call0_v0, val_main_call5_call0_v1, val_main_v39, val_main_v40, val_main_v41, val_main_v42, val_main_cst_10, val_main_v43, val_main_v44, val_main_v45, val_main_v46, val_main_v47, val_main_v48, val_main_v49, val_main_v50, val_main_v51, val_main_v52, val_main_v53, val_main_v54]
  rfl

end Cert.ReferenceIdeal.Conv

end
-- ==== Proof.Agree.lean ====
module

public import proofs.«01_k».proof.Proof.Regular
public import proofs.«01_k».proof.Proof.Output
public import proofs.«01_k».proof.Proof.RefTail

@[expose] public section

set_option maxRecDepth 16384

noncomputable section

/-! # The two results are one array -/

namespace Cert.Agree

open Cert.KernelIdeal Cert.KernelIdeal.Gen Cert.KernelIdeal.Conv
open Idealize.ShloMosaic Idealize.ShloMosaic.TcCoe Idealize.ShloMosaic.Tactic Cert.Formula

/-- The kernel's formula and the reference's agree at real convolutions and real factors. -/
theorem ker_ref (Y : Fin 1048576 → EReal) (g h : EReal) (n : Fin 1048576) (hY : ∀ k, ∃ r : ℝ, Y k = (r : EReal)) (hg : ∃ r : ℝ, g = (r : EReal)) :
    kerOut Y g h n = refOut Y g h n := by
  choose r hr using hY
  obtain ⟨q, rfl⟩ := hg
  obtain rfl : Y = fun k => (r k : EReal) := funext hr
  exact kerOut_eq_refOut r q h n

variable (m : (ℓ : Loc nD τ sig) → Buf (Elt Ideal) ℓ)

/-- The kernel's entry, as the formula of its column of convolutions. -/
theorem outK_eq (c : Dev nD) (n : Fin 1048576) (o : Fin 16) :
    outK m c n o = kerOut (fun k => yK m c k o) (argG m c (ix1 o)) (argH m c (ix1 o)) n := rfl

/-- On regular inputs an entry of the kernel's result is the reference's. -/
theorem entry (h : Cert.Pre_KernelIdeal_regular m) (c : Dev nD) (n : Fin 1048576) (o : Fin 16) :
    outV m c (ix2 n o) = Cert.ReferenceIdeal.Read.val_main_v54 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (ix2 n o) := by
  obtain ⟨h0, h1, h2, h3, h4, h5⟩ := h c
  have c2 := Cert.Pre_regular.Conv.count _ _ _ _ _ _ _ h0
  have r0 := Cert.Pre_regular.Conv.real0 _ _ _ _ _ _ _ h1
  have r1 := Cert.Pre_regular.Conv.real1 _ _ _ _ _ _ _ h2
  have r3 := Cert.Pre_regular.Conv.real3 _ _ _ _ _ _ _ h3
  have r4 := Cert.Pre_regular.Conv.real4 _ _ _ _ _ _ _ h4
  have r5 := Cert.Pre_regular.Conv.real5 _ _ _ _ _ _ _ h5
  refine Eq.trans ?_ (Cert.ReferenceIdeal.Conv.v54_ap _ _ _ _ _ _ _ n o).symm
  refine (outK_eq m c n o).trans ?_
  refine (ker_ref _ _ _ n (fun k => y_real _ _ _ _ r0 r1 r3 r4 k o) (r5 o)).trans ?_
  exact congrArg (fun Y => refOut Y (argG m c (ix1 o)) (argH m c (ix1 o)) n)
    (funext fun k => (Cert.ReferenceIdeal.Conv.v35_ap _ _ _ _ _ c2 k o).symm)

/-- On regular inputs the kernel's result is the reference's function of the same arrays. -/
theorem out (h : Cert.Pre_KernelIdeal_regular m) (c : Dev nD) :
    outV m c = Cert.ReferenceIdeal.Read.val_main_v54 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) :=
  funext fun j => (congrArg _ (eq_ix2 j)).trans ((entry m h c (j 0) (j 1)).trans (congrArg _ (eq_ix2 j).symm))

end Cert.Agree

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_regular
public import proofs.«01_k».proof.Proof.Launch
public import proofs.«01_k».proof.Proof.Bits.Launch
public import proofs.«01_k».proof.Proof.Agree
public import Idealize.ShloMosaic.Lib.Claim

@[expose] public section

noncomputable section

namespace Cert.Proof

open Idealize.ShloMosaic Idealize.SL.Sem

/-- The kernel at floating-point words: it runs, leaves its arguments and clears its counters. -/
theorem frame_kernel : Cert.quiescent_Kernel := fun m g _ => Cert.Kernel.Conv.frame (F := Bits) m g

/-- The same of the kernel on the ideal. -/
theorem frame_kernelIdeal : Cert.quiescent_KernelIdeal := fun m g _ => Cert.KernelIdeal.Conv.frame (F := Ideal) m g

/-- The same of the reference on the ideal; it declares no counter. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's frame again, under the precondition, which it does not need. -/
theorem frame_kernelIdeal_regular : Cert.quiescent_KernelIdeal_pre_regular := fun m g _ => Cert.KernelIdeal.Conv.frame (F := Ideal) m g

/-- The reference's frame again, under the precondition, which it does not need. -/
theorem frame_reference_regular : Cert.quiescent_ReferenceIdeal_pre_regular := fun m g _ => frame_reference m g trivial

/-- The reference's function of equal arrays. -/
theorem stage_congr {x0 z0 : FVec Ideal Cert.ReferenceIdeal.S1048576x16 .f32} {x1 z1 : FVec Ideal Cert.ReferenceIdeal.S1048576x4 .f32} {x2 z2 : IVec Cert.ReferenceIdeal.S1048576 32}
    {x3 z3 : FVec Ideal Cert.ReferenceIdeal.S16x16x4 .f32} {x4 z4 : FVec Ideal Cert.ReferenceIdeal.S1x16 .f32} {x5 z5 x6 z6 : FVec Ideal Cert.ReferenceIdeal.S16 .f32}
    (h0 : x0 = z0) (h1 : x1 = z1) (h2 : x2 = z2) (h3 : x3 = z3) (h4 : x4 = z4) (h5 : x5 = z5) (h6 : x6 = z6) :
    Cert.ReferenceIdeal.Read.val_main_v54 (F := Ideal) x0 x1 x2 x3 x4 x5 x6 = Cert.ReferenceIdeal.Read.val_main_v54 (F := Ideal) z0 z1 z2 z3 z4 z5 z6 := by
  subst h0 h1 h2 h3 h4 h5 h6
  rfl

/-- On regular inputs the kernel and the reference end with one array. -/
theorem algebraic : Cert.algebraic_KernelIdeal_ReferenceIdeal_pre_regular := fun m g m' g' hpre hargs =>
  ⟨fun c => Cert.KernelIdeal.Conv.outV m c, Cert.KernelIdeal.Conv.run_value m g,
    (θ_run Cert.ReferenceIdeal.defs _ _).mono (fun r h c => by
      obtain ⟨a0, a1, a2, a3, a4, a5, a6⟩ := hargs c
      refine ⟨(h c).1.trans ((Cert.ReferenceIdeal.Read.val_main_v54_eq _).trans (Eq.trans ?_ (Cert.Agree.out m hpre c).symm)), (h c).2⟩
      exact stage_congr a0 a1 a2 a3 a4 a5 a6) (Cert.ReferenceIdeal.Value.run (F := Ideal) m' g')⟩

/-- Everything claimed. -/
theorem claim : Cert.Claim :=
  ⟨Cert.Kernel.Gen.facts, Cert.KernelIdeal.Gen.facts, Cert.ReferenceIdeal.Gen.facts, Cert.Pre_regular.Gen.facts, frame_kernel, frame_kernelIdeal,
    frame_kernelIdeal_regular, frame_reference, frame_reference_regular, trivial, algebraic⟩

end Cert.Proof

end
